-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)) (v1 : (c : Dev Cert.KernelIdeal.nD) → Buf (Elt Ideal) ((c.tc : Thread Cert.KernelIdeal.nD Cert.KernelIdeal.τ).loc Cert.KernelIdeal.main_v76)) (v2 : (c : Dev Cert.KernelIdeal.nD) → Buf (Elt Ideal) ((c.tc : Thread Cert.KernelIdeal.nD Cert.KernelIdeal.τ).loc Cert.KernelIdeal.main_v53_1)) (v3 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_v53_1) = v2 c
          ∧ r.2.mem ((c.tc : Thread Cert.KernelIdeal.nD Cert.KernelIdeal.τ).loc Cert.KernelIdeal.main_v77) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v119) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x896x3584 : Shape := ⟨3, ![2, 896, 3584]⟩
abbrev S32768x3584 : Shape := ⟨2, ![32768, 3584]⟩
abbrev S32768x112 : Shape := ⟨2, ![32768, 112]⟩
abbrev S32768 : Shape := ⟨1, ![32768]⟩
abbrev S12288 : Shape := ⟨1, ![12288]⟩
abbrev S2x896 : Shape := ⟨2, ![2, 896]⟩
abbrev S_ : Shape := ⟨0, ![]⟩

class Facts : Prop where
  bitsLt_bf16_f32 : FTy.bits .bf16 < FTy.bits .f32
  bcast_S_S2x896x3584 : S_.BroadcastsInDim S2x896x3584 (![] : Fin 0 → Fin S2x896x3584.rank)
  reducesTo_S2x896x3584_S_d0_1_2 : S2x896x3584.ReducesTo [0, 1, 2] S_
  h_S_ : 0 < S_.numel
  bcast_S_S32768x112 : S_.BroadcastsInDim S32768x112 (![] : Fin 0 → Fin S32768x112.rank)
  reducesTo_S32768x112_S_d0_1 : S32768x112.ReducesTo [0, 1] S_
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S2x896x3584 .bf16) (main_arg1 : IVec S32768x3584 8) (main_arg2 : FVec F S32768x112 .f32) (main_arg3 : FVec F S32768 .f32) (main_arg4 : IVec S12288 32) (main_arg5 : IVec S2x896 32) (main_arg6 : FVec F S2x896 .f32) (main_arg7 : FVec F S32768x3584 .f32) : IVec S_ 1 :=
  let main_v0 : FVec F S2x896x3584 .f32 := (extf .f32 · bitsLt_bf16_f32) main_arg0
  let main_v1 : FVec F S2x896x3584 .f32 := Host.absf main_v0
  let main_cst : FVec F S_ .f32 := constant S_ .f32 0x7F800000#32
  let main_v2 : FVec F S2x896x3584 .f32 := broadcastInDim S2x896x3584 ![] bcast_S_S2x896x3584 main_cst
  let main_v3 : IVec S2x896x3584 1 := cmpf .olt main_v1 main_v2
  let main_c : IVec S_ 1 := constantI S_ 1 1#1
  let main_v4 : IVec S_ 1 := (fun x v => Host.reduce IntOp.andi x v reducesTo_S2x896x3584_S_d0_1_2 h_S_) main_v3 main_c
  let main_v5 : FVec F S32768x112 .f32 := Host.absf main_arg2
  let main_cst_0 : FVec F S_ .f32 := constant S_ .f32 0x7F800000#32
  let main_v6 : FVec F S32768x112 .f32 := broadcastInDim S32768x112 ![] bcast_S_S32768x112 main_cst_0
  let main_v7 : IVec S32768x112 1 := cmpf .olt main_v5 main_v6
  let main_c_1 : IVec S_ 1 := constantI S_ 1 1#1
  let main_v8 : IVec S_ 1 := (fun x v => Host.reduce IntOp.andi x v reducesTo_S32768x112_S_d0_1 h_S_) main_v7 main_c_1
  let main_v9 : IVec S_ 1 := andi main_v4 main_v8
  let main_v10 : FVec F S32768 .f32 := Host.absf main_arg3
  let main_cst_2 : FVec F S_ .f32 := constant S_ .f32 0x7F800000#32
  let main_v11 : FVec F S32768 .f32 := broadcastInDim S32768 ![] bcast_S_S32768 main_cst_2
  let main_v12 : IVec S32768 1 := cmpf .olt main_v10 main_v11
  let main_c_3 : IVec S_ 1 := constantI S_ 1 1#1
  let main_v13 : IVec S_ 1 := (fun x v => Host.reduce IntOp.andi x v reducesTo_S32768_S_d0 h_S_) main_v12 main_c_3
  let main_v14 : IVec S_ 1 := andi main_v9 main_v13
  main_v14
-- ==== Kernel.lean ====
abbrev S2x896x3584 : Shape := ⟨3, ![2, 896, 3584]⟩
abbrev S32768x3584 : Shape := ⟨2, ![32768, 3584]⟩
abbrev S32768x112 : Shape := ⟨2, ![32768, 112]⟩
abbrev S32768 : Shape := ⟨1, ![32768]⟩
abbrev S12288 : Shape := ⟨1, ![12288]⟩
abbrev S2x896 : Shape := ⟨2, ![2, 896]⟩
abbrev S1792x3584 : Shape := ⟨2, ![1792, 3584]⟩
abbrev S1792 : Shape := ⟨1, ![1792]⟩
abbrev S1792x1 : Shape := ⟨2, ![1792, 1]⟩
abbrev S_ : Shape := ⟨0, ![]⟩
abbrev S32768x128 : Shape := ⟨2, ![32768, 128]⟩
abbrev S12288x1 : Shape := ⟨2, ![12288, 1]⟩
abbrev S12288x3584 : Shape := ⟨2, ![12288, 3584]⟩
abbrev S12288x128 : Shape := ⟨2, ![12288, 128]⟩
abbrev S24x1x512 : Shape := ⟨3, ![24, 1, 512]⟩
abbrev S24x1792x512 : Shape := ⟨3, ![24, 1792, 512]⟩
abbrev S1792x128 : Shape := ⟨2, ![1792, 128]⟩
abbrev S512x3584 : Shape := ⟨2, ![512, 3584]⟩
abbrev S512x128 : Shape := ⟨2, ![512, 128]⟩
abbrev S1x1x512 : Shape := ⟨3, ![1, 1, 512]⟩
abbrev S1x1792x512 : Shape := ⟨3, ![1, 1792, 512]⟩
abbrev S128x3584 : Shape := ⟨2, ![128, 3584]⟩
abbrev S1792x512 : Shape := ⟨2, ![1792, 512]⟩
abbrev S1x512 : Shape := ⟨2, ![1, 512]⟩
abbrev S256x3584 : Shape := ⟨2, ![256, 3584]⟩
abbrev S256x128 : Shape := ⟨2, ![256, 128]⟩
abbrev S256x1 : Shape := ⟨2, ![256, 1]⟩
abbrev S256 : Shape := ⟨1, ![256]⟩
abbrev S1x1792x256 : Shape := ⟨3, ![1, 1792, 256]⟩
abbrev S1792x256 : Shape := ⟨2, ![1792, 256]⟩

abbrev nBuf : Space → Nat
  | .hbm => 111
  | .vmem => 48
  | .smem => 0
  | _ => 0

abbrev bufTy : (tb : Table) → Fin (tcTables nBuf tb) → BufTy
  | .hbm, ⟨0, _⟩ => ⟨S2x896x3584, .bf16⟩
  | .hbm, ⟨1, _⟩ => ⟨S32768x3584, .i8⟩
  | .hbm, ⟨2, _⟩ => ⟨S32768x112, .f32⟩
  | .hbm, ⟨3, _⟩ => ⟨S32768, .f32⟩
  | .hbm, ⟨4, _⟩ => ⟨S12288, .i32⟩
  | .hbm, ⟨5, _⟩ => ⟨S2x896, .i32⟩
  | .hbm, ⟨6, _⟩ => ⟨S2x896, .f32⟩
  | .hbm, ⟨7, _⟩ => ⟨S32768x3584, .f32⟩
  | .hbm, ⟨8, _⟩ => ⟨S1792x3584, .bf16⟩
  | .hbm, ⟨9, _⟩ => ⟨S1792, .i32⟩
  | .hbm, ⟨10, _⟩ => ⟨S1792x1, .f32⟩
  | .hbm, ⟨11, _⟩ => ⟨S32768x112, .bf16⟩
  | .hbm, ⟨12, _⟩ => ⟨S_, .i32⟩
  | .hbm, ⟨13, _⟩ => ⟨S_, .bf16⟩
  | .hbm, ⟨14, _⟩ => ⟨S32768x128, .bf16⟩
  | .hbm, ⟨15, _⟩ => ⟨S_, .i32⟩
  | .hbm, ⟨16, _⟩ => ⟨S12288, .i32⟩
  | .hbm, ⟨17, _⟩ => ⟨S12288, .i1⟩
  | .hbm, ⟨18, _⟩ => ⟨S_, .i32⟩
  | .hbm, ⟨19, _⟩ => ⟨S12288, .i32⟩
  | .hbm, ⟨20, _⟩ => ⟨S12288, .i32⟩
  | .hbm, ⟨21, _⟩ => ⟨S12288, .i32⟩
  | .hbm, ⟨22, _⟩ => ⟨S12288x1, .i32⟩
  | .hbm, ⟨23, _⟩ => ⟨S12288x3584, .i8⟩
  | .hbm, ⟨24, _⟩ => ⟨S_, .i32⟩
  | .hbm, ⟨25, _⟩ => ⟨S1792, .i32⟩
  | .hbm, ⟨26, _⟩ => ⟨S1792, .i1⟩
  | .hbm, ⟨27, _⟩ => ⟨S_, .i32⟩
  | .hbm, ⟨28, _⟩ => ⟨S1792, .i32⟩
  | .hbm, ⟨29, _⟩ => ⟨S1792, .i32⟩
  | .hbm, ⟨30, _⟩ => ⟨S1792, .i32⟩
  | .hbm, ⟨31, _⟩ => ⟨S1792x1, .i32⟩
  | .hbm, ⟨32, _⟩ => ⟨S1792x3584, .i8⟩
  | .hbm, ⟨33, _⟩ => ⟨S_, .i32⟩
  | .hbm, ⟨34, _⟩ => ⟨S12288, .i32⟩
  | .hbm, ⟨35, _⟩ => ⟨S12288, .i1⟩
  | .hbm, ⟨36, _⟩ => ⟨S_, .i32⟩
  | .hbm, ⟨37, _⟩ => ⟨S12288, .i32⟩
  | .hbm, ⟨38, _⟩ => ⟨S12288, .i32⟩
  | .hbm, ⟨39, _⟩ => ⟨S12288, .i32⟩
  | .hbm, ⟨40, _⟩ => ⟨S12288x1, .i32⟩
  | .hbm, ⟨41, _⟩ => ⟨S12288x128, .bf16⟩
  | .hbm, ⟨42, _⟩ => ⟨S_, .i32⟩
  | .hbm, ⟨43, _⟩ => ⟨S12288, .i32⟩
  | .hbm, ⟨44, _⟩ => ⟨S12288, .i1⟩
  | .hbm, ⟨45, _⟩ => ⟨S_, .i32⟩
  | .hbm, ⟨46, _⟩ => ⟨S12288, .i32⟩
  | .hbm, ⟨47, _⟩ => ⟨S12288, .i32⟩
  | .hbm, ⟨48, _⟩ => ⟨S12288, .i32⟩
  | .hbm, ⟨49, _⟩ => ⟨S12288x1, .i32⟩
  | .hbm, ⟨50, _⟩ => ⟨S12288, .f32⟩
  | .hbm, ⟨51, _⟩ => ⟨S24x1x512, .f32⟩
  | .hbm, ⟨52, _⟩ => ⟨S24x1x512, .i32⟩
  | .hbm, ⟨53, _⟩ => ⟨S1792x1, .i32⟩
  | .hbm, ⟨54, _⟩ => ⟨S24x1792x512, .f32⟩
  | .hbm, ⟨55, _⟩ => ⟨S12288x3584, .bf16⟩
  | .hbm, ⟨56, _⟩ => ⟨S1792x128, .f32⟩
  | .hbm, ⟨57, _⟩ => ⟨S1792x128, .f32⟩
  | .hbm, ⟨58, _⟩ => ⟨S_, .i32⟩
  | .hbm, ⟨59, _⟩ => ⟨S1792, .i32⟩
  | .hbm, ⟨60, _⟩ => ⟨S1792, .i1⟩
  | .hbm, ⟨61, _⟩ => ⟨S_, .i32⟩
  | .hbm, ⟨62, _⟩ => ⟨S1792, .i32⟩
  | .hbm, ⟨63, _⟩ => ⟨S1792, .i32⟩
  | .hbm, ⟨64, _⟩ => ⟨S1792, .i32⟩
  | .hbm, ⟨65, _⟩ => ⟨S1792x1, .i32⟩
  | .hbm, ⟨66, _⟩ => ⟨S1792x128, .bf16⟩
  | .hbm, ⟨67, _⟩ => ⟨S_, .i32⟩
  | .hbm, ⟨68, _⟩ => ⟨S1792, .i32⟩
  | .hbm, ⟨69, _⟩ => ⟨S1792, .i1⟩
  | .hbm, ⟨70, _⟩ => ⟨S_, .i32⟩
  | .hbm, ⟨71, _⟩ => ⟨S1792, .i32⟩
  | .hbm, ⟨72, _⟩ => ⟨S1792, .i32⟩
  | .hbm, ⟨73, _⟩ => ⟨S1792, .i32⟩
  | .hbm, ⟨74, _⟩ => ⟨S1792x1, .i32⟩
  | .hbm, ⟨75, _⟩ => ⟨S1792, .f32⟩
  | .hbm, ⟨76, _⟩ => ⟨S1792x1, .f32⟩
  | .hbm, ⟨77, _⟩ => ⟨S1792x3584, .bf16⟩
  | .hbm, ⟨78, _⟩ => ⟨S1792x1, .f32⟩
  | .hbm, ⟨79, _⟩ => ⟨S1792x1, .f32⟩
  | .hbm, ⟨80, _⟩ => ⟨S1792x1, .f32⟩
  | .hbm, ⟨81, _⟩ => ⟨S1792x3584, .f32⟩
  | .hbm, ⟨82, _⟩ => ⟨S12288x3584, .f32⟩
  | .hbm, ⟨83, _⟩ => ⟨S1792x3584, .f32⟩
  | .hbm, ⟨84, _⟩ => ⟨S1792x3584, .f32⟩
  | .hbm, ⟨85, _⟩ => ⟨S1792x3584, .f32⟩
  | .hbm, ⟨86, _⟩ => ⟨S1792x3584, .f32⟩
  | .hbm, ⟨87, _⟩ => ⟨S1792x3584, .bf16⟩
  | .hbm, ⟨88, _⟩ => ⟨S2x896x3584, .bf16⟩
  | .hbm, ⟨89, _⟩ => ⟨S_, .i32⟩
  | .hbm, ⟨90, _⟩ => ⟨S12288, .i32⟩
  | .hbm, ⟨91, _⟩ => ⟨S12288, .i1⟩
  | .hbm, ⟨92, _⟩ => ⟨S_, .i32⟩
  | .hbm, ⟨93, _⟩ => ⟨S12288, .i32⟩
  | .hbm, ⟨94, _⟩ => ⟨S12288, .i32⟩
  | .hbm, ⟨95, _⟩ => ⟨S12288, .i32⟩
  | .hbm, ⟨96, _⟩ => ⟨S12288x1, .i32⟩
  | .hbm, ⟨97, _⟩ => ⟨S32768x3584, .f32⟩
  | .hbm, ⟨98, _⟩ => ⟨S1792x3584, .f32⟩
  | .hbm, ⟨99, _⟩ => ⟨S1792x3584, .f32⟩
  | .hbm, ⟨100, _⟩ => ⟨S1792x3584, .f32⟩
  | .hbm, ⟨101, _⟩ => ⟨S_, .i32⟩
  | .hbm, ⟨102, _⟩ => ⟨S1792, .i32⟩
  | .hbm, ⟨103, _⟩ => ⟨S1792, .i1⟩
  | .hbm, ⟨104, _⟩ => ⟨S_, .i32⟩
  | .hbm, ⟨105, _⟩ => ⟨S1792, .i32⟩
  | .hbm, ⟨106, _⟩ => ⟨S1792, .i32⟩
  | .hbm, ⟨107, _⟩ => ⟨S1792, .i32⟩
  | .hbm, ⟨108, _⟩ => ⟨S1792x1, .i32⟩
  | .hbm, ⟨109, _⟩ => ⟨S32768x3584, .f32⟩
  | .hbm, ⟨110, _⟩ => ⟨S2x896, .f32⟩
  | .local _ .vmem, ⟨0, _⟩ => ⟨S1792x3584, .bf16⟩
  | .local _ .vmem, ⟨1, _⟩ => ⟨S512x3584, .i8⟩
  | .local _ .vmem, ⟨2, _⟩ => ⟨S512x3584, .i8⟩
  | .local _ .vmem, ⟨3, _⟩ => ⟨S512x128, .bf16⟩
  | .local _ .vmem, ⟨4, _⟩ => ⟨S512x128, .bf16⟩
  | .local _ .vmem, ⟨5, _⟩ => ⟨S1x1x512, .f32⟩
  | .local _ .vmem, ⟨6, _⟩ => ⟨S1x1x512, .f32⟩
  | .local _ .vmem, ⟨7, _⟩ => ⟨S1x1x512, .i32⟩
  | .local _ .vmem, ⟨8, _⟩ => ⟨S1x1x512, .i32⟩
  | .local _ .vmem, ⟨9, _⟩ => ⟨S1792x1, .i32⟩
  | .local _ .vmem, ⟨10, _⟩ => ⟨S1x1792x512, .f32⟩
  | .local _ .vmem, ⟨11, _⟩ => ⟨S1x1792x512, .f32⟩
  | .local _ .vmem, ⟨12, _⟩ => ⟨S512x3584, .bf16⟩
  | .local _ .vmem, ⟨13, _⟩ => ⟨S512x3584, .bf16⟩
  | .local _ .vmem, ⟨14, _⟩ => ⟨S1792x128, .f32⟩
  | .local _ .vmem, ⟨15, _⟩ => ⟨S1792x128, .f32⟩
  | .local _ .vmem, ⟨16, _⟩ => ⟨S256x3584, .bf16⟩
  | .local _ .vmem, ⟨17, _⟩ => ⟨S256x3584, .bf16⟩
  | .local _ .vmem, ⟨18, _⟩ => ⟨S256x3584, .i8⟩
  | .local _ .vmem, ⟨19, _⟩ => ⟨S256x3584, .i8⟩
  | .local _ .vmem, ⟨20, _⟩ => ⟨S256x128, .bf16⟩
  | .local _ .vmem, ⟨21, _⟩ => ⟨S256x128, .bf16⟩
  | .local _ .vmem, ⟨22, _⟩ => ⟨S256x1, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S256x3584, .bf16⟩
  | .local _ .vmem, ⟨31, _⟩ => ⟨S256x3584, .bf16⟩
  | .local _ .vmem, ⟨32, _⟩ => ⟨S256x1, .f32⟩
  | .local _ .vmem, ⟨33, _⟩ => ⟨S256x1, .f32⟩
  | .local _ .vmem, ⟨34, _⟩ => ⟨S256x1, .f32⟩
  | .local _ .vmem, ⟨35, _⟩ => ⟨S256x1, .f32⟩
  | .local _ .vmem, ⟨36, _⟩ => ⟨S256x1, .f32⟩
  | .local _ .vmem, ⟨37, _⟩ => ⟨S256x1, .f32⟩
  | .local _ .vmem, ⟨38, _⟩ => ⟨S1792x3584, .bf16⟩
  | .local _ .vmem, ⟨39, _⟩ => ⟨S256x3584, .bf16⟩
  | .local _ .vmem, ⟨40, _⟩ => ⟨S256x3584, .bf16⟩
  | .local _ .vmem, ⟨41, _⟩ => ⟨S1x1792x256, .f32⟩
  | .local _ .vmem, ⟨42, _⟩ => ⟨S1x1792x256, .f32⟩
  | .local _ .vmem, ⟨43, _⟩ => ⟨S1792x1, .f32⟩
  | .local _ .vmem, ⟨44, _⟩ => ⟨S1792x1, .f32⟩
  | .local _ .vmem, ⟨45, _⟩ => ⟨S1792x3584, .f32⟩
  | .local _ .vmem, ⟨46, _⟩ => ⟨S256x3584, .f32⟩
  | .local _ .vmem, ⟨47, _⟩ => ⟨S256x3584, .f32⟩
  | _, _ => ⟨S2x896x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36_0 : Ref sig .tc := ⟨.hbm, 54, rfl⟩
abbrev main_v36_1 : Ref sig .tc := ⟨.hbm, 55, rfl⟩
abbrev main_v36_2 : Ref sig .tc := ⟨.hbm, 56, rfl⟩
abbrev main_v36_3 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52_0 : Ref sig .tc := ⟨.hbm, 77, rfl⟩
abbrev main_v52_1 : Ref sig .tc := ⟨.hbm, 78, rfl⟩
abbrev main_v52_2 : Ref sig .tc := ⟨.hbm, 79, rfl⟩
abbrev main_v52_3 : Ref sig .tc := ⟨.hbm, 80, rfl⟩
abbrev main_v53_0 : Ref sig .tc := ⟨.hbm, 81, rfl⟩
abbrev main_v53_1 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_12 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_stg10_0 : Ref sig .tc := ⟨.vmem, 36, rfl⟩
abbrev cc1_stg10_1 : Ref sig .tc := ⟨.vmem, 37, rfl⟩
abbrev cc2_stg0_0 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg5_0 : Ref sig .tc := ⟨.vmem, 45, rfl⟩
abbrev cc2_stg6_0 : Ref sig .tc := ⟨.vmem, 46, rfl⟩
abbrev cc2_stg6_1 : Ref sig .tc := ⟨.vmem, 47, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc2_sem0_0 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem4_0 : DmaSem sig := 44
abbrev cc2_sem5_0 : DmaSem sig := 45
abbrev cc2_sem6_0 : DmaSem sig := 46
abbrev cc2_sem6_1 : DmaSem sig := 47

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1792x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1792x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1792x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1792x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![7], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x3584 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x3584 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![48], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1792x3584 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x3584 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1792x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1792x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1792x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1792x3584 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x3584 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S2x896x3584 : Shape := ⟨3, ![2, 896, 3584]⟩
abbrev S32768x3584 : Shape := ⟨2, ![32768, 3584]⟩
abbrev S32768x112 : Shape := ⟨2, ![32768, 112]⟩
abbrev S32768 : Shape := ⟨1, ![32768]⟩
abbrev S12288 : Shape := ⟨1, ![12288]⟩
abbrev S2x896 : Shape := ⟨2, ![2, 896]⟩
abbrev S1792x3584 : Shape := ⟨2, ![1792, 3584]⟩
abbrev S1792 : Shape := ⟨1, ![1792]⟩
abbrev S_ : Shape := ⟨0, ![]⟩
abbrev S12288x1 : Shape := ⟨2, ![12288, 1]⟩
abbrev S12288x3584 : Shape := ⟨2, ![12288, 3584]⟩
abbrev S12288x112 : Shape := ⟨2, ![12288, 112]⟩
abbrev S12288x112x32 : Shape := ⟨3, ![12288, 112, 32]⟩
abbrev S12288x112x1 : Shape := ⟨3, ![12288, 112, 1]⟩
abbrev S1792x1 : Shape := ⟨2, ![1792, 1]⟩
abbrev S1792x112 : Shape := ⟨2, ![1792, 112]⟩
abbrev S1792x112x32 : Shape := ⟨3, ![1792, 112, 32]⟩
abbrev S1792x112x1 : Shape := ⟨3, ![1792, 112, 1]⟩
abbrev S1792x12288 : Shape := ⟨2, ![1792, 12288]⟩
abbrev S1x12288 : Shape := ⟨2, ![1, 12288]⟩

abbrev nBuf : Space → Nat
  | .hbm => 173
  | .vmem => 0
  | .smem => 0
  | _ => 0

abbrev hbmTy0_0 (i : Nat) : BufTy := match i % 128 with
  | 0 => ⟨S2x896x3584, .bf16⟩
  | 1 => ⟨S32768x3584, .i8⟩
  | 2 => ⟨S32768x112, .f32⟩
  | 3 => ⟨S32768, .f32⟩
  | 4 => ⟨S12288, .i32⟩
  | 5 => ⟨S2x896, .i32⟩
  | 6 => ⟨S2x896, .f32⟩
  | 7 => ⟨S32768x3584, .f32⟩
  | 8 => ⟨S1792x3584, .bf16⟩
  | 9 => ⟨S1792, .i32⟩
  | 10 => ⟨S1792, .f32⟩
  | 11 => ⟨S_, .i32⟩
  | 12 => ⟨S12288, .i32⟩
  | 13 => ⟨S12288, .i1⟩
  | 14 => ⟨S_, .i32⟩
  | 15 => ⟨S12288, .i32⟩
  | 16 => ⟨S12288, .i32⟩
  | 17 => ⟨S12288, .i32⟩
  | 18 => ⟨S12288x1, .i32⟩
  | 19 => ⟨S12288x3584, .i8⟩
  | 20 => ⟨S_, .i32⟩
  | 21 => ⟨S12288, .i32⟩
  | 22 => ⟨S12288, .i1⟩
  | 23 => ⟨S_, .i32⟩
  | 24 => ⟨S12288, .i32⟩
  | 25 => ⟨S12288, .i32⟩
  | 26 => ⟨S12288, .i32⟩
  | 27 => ⟨S12288x1, .i32⟩
  | 28 => ⟨S12288x112, .f32⟩
  | 29 => ⟨S12288x3584, .i32⟩
  | 30 => ⟨S12288x3584, .f32⟩
  | 31 => ⟨S12288x3584, .bf16⟩
  | 32 => ⟨S12288x112x32, .bf16⟩
  | 33 => ⟨S12288x112, .bf16⟩
  | 34 => ⟨S12288x112x1, .bf16⟩
  | 35 => ⟨S12288x112x32, .bf16⟩
  | 36 => ⟨S12288x112x32, .bf16⟩
  | 37 => ⟨S12288x3584, .bf16⟩
  | 38 => ⟨S_, .i32⟩
  | 39 => ⟨S1792, .i32⟩
  | 40 => ⟨S1792, .i1⟩
  | 41 => ⟨S_, .i32⟩
  | 42 => ⟨S1792, .i32⟩
  | 43 => ⟨S1792, .i32⟩
  | 44 => ⟨S1792, .i32⟩
  | 45 => ⟨S1792x1, .i32⟩
  | 46 => ⟨S1792x3584, .i8⟩
  | 47 => ⟨S_, .i32⟩
  | 48 => ⟨S1792, .i32⟩
  | 49 => ⟨S1792, .i1⟩
  | 50 => ⟨S_, .i32⟩
  | 51 => ⟨S1792, .i32⟩
  | 52 => ⟨S1792, .i32⟩
  | 53 => ⟨S1792, .i32⟩
  | 54 => ⟨S1792x1, .i32⟩
  | 55 => ⟨S1792x112, .f32⟩
  | 56 => ⟨S1792x3584, .i32⟩
  | 57 => ⟨S1792x3584, .f32⟩
  | 58 => ⟨S1792x3584, .bf16⟩
  | 59 => ⟨S1792x112x32, .bf16⟩
  | 60 => ⟨S1792x112, .bf16⟩
  | 61 => ⟨S1792x112x1, .bf16⟩
  | 62 => ⟨S1792x112x32, .bf16⟩
  | 63 => ⟨S1792x112x32, .bf16⟩
  | 64 => ⟨S1792x3584, .bf16⟩
  | 65 => ⟨S1792x12288, .f32⟩
  | 66 => ⟨S_, .i32⟩
  | 67 => ⟨S12288, .i32⟩
  | 68 => ⟨S12288, .i1⟩
  | 69 => ⟨S_, .i32⟩
  | 70 => ⟨S12288, .i32⟩
  | 71 => ⟨S12288, .i32⟩
  | 72 => ⟨S12288, .i32⟩
  | 73 => ⟨S12288x1, .i32⟩
  | 74 => ⟨S12288, .f32⟩
  | 75 => ⟨S1x12288, .f32⟩
  | 76 => ⟨S1792x12288, .f32⟩
  | 77 => ⟨S1792x12288, .f32⟩
  | 78 => ⟨S1x12288, .i32⟩
  | 79 => ⟨S1792x1, .i32⟩
  | 80 => ⟨S1792x12288, .i32⟩
  | 81 => ⟨S1792x12288, .i32⟩
  | 82 => ⟨S1792x12288, .i1⟩
  | 83 => ⟨S_, .f32⟩
  | 84 => ⟨S_, .f32⟩
  | 85 => ⟨S1792x12288, .f32⟩
  | 86 => ⟨S1792x12288, .f32⟩
  | 87 => ⟨S1792, .f32⟩
  | 88 => ⟨S_, .i32⟩
  | 89 => ⟨S1792, .i32⟩
  | 90 => ⟨S1792, .i1⟩
  | 91 => ⟨S_, .i32⟩
  | 92 => ⟨S1792, .i32⟩
  | 93 => ⟨S1792, .i32⟩
  | 94 => ⟨S1792, .i32⟩
  | 95 => ⟨S1792x1, .i32⟩
  | 96 => ⟨S1792, .f32⟩
  | 97 => ⟨S1792, .f32⟩
  | 98 => ⟨S_, .f32⟩
  | 99 => ⟨S1792, .f32⟩
  | 100 => ⟨S1792, .f32⟩
  | 101 => ⟨S_, .f32⟩
  | 102 => ⟨S1792, .f32⟩
  | 103 => ⟨S1792, .i1⟩
  | 104 => ⟨S_, .f32⟩
  | 105 => ⟨S_, .f32⟩
  | 106 => ⟨S1792, .f32⟩
  | 107 => ⟨S1792, .f32⟩
  | 108 => ⟨S1792x1, .f32⟩
  | 109 => ⟨S1792x12288, .f32⟩
  | 110 => ⟨S1792x12288, .f32⟩
  | 111 => ⟨S1792x12288, .f32⟩
  | 112 => ⟨S_, .f32⟩
  | 113 => ⟨S1792, .f32⟩
  | 114 => ⟨S1792, .f32⟩
  | 115 => ⟨S1792, .f32⟩
  | 116 => ⟨S1792, .f32⟩
  | 117 => ⟨S1792, .f32⟩
  | 118 => ⟨S1792, .i1⟩
  | 119 => ⟨S1792, .f32⟩
  | 120 => ⟨S1792, .f32⟩
  | 121 => ⟨S1792, .f32⟩
  | 122 => ⟨S1792, .f32⟩
  | 123 => ⟨S1792, .f32⟩
  | 124 => ⟨S1792, .f32⟩
  | 125 => ⟨S1792, .f32⟩
  | 126 => ⟨S1792x1, .f32⟩
  | 127 => ⟨S1792x12288, .f32⟩
  | _ => ⟨S2x896x3584, .bf16⟩

abbrev hbmTy0_1 (i : Nat) : BufTy := match i % 128 with
  | 0 => ⟨S1792x12288, .f32⟩
  | 1 => ⟨S1792x12288, .f32⟩
  | 2 => ⟨S1792, .f32⟩
  | 3 => ⟨S1792, .f32⟩
  | 4 => ⟨S1792, .f32⟩
  | 5 => ⟨S1792x1, .f32⟩
  | 6 => ⟨S1792x12288, .f32⟩
  | 7 => ⟨S1792x12288, .f32⟩
  | 8 => ⟨S_, .f32⟩
  | 9 => ⟨S1792, .f32⟩
  | 10 => ⟨S1792, .f32⟩
  | 11 => ⟨S1792, .f32⟩
  | 12 => ⟨S1792x12288, .bf16⟩
  | 13 => ⟨S1792x3584, .f32⟩
  | 14 => ⟨S1792x1, .f32⟩
  | 15 => ⟨S1792x3584, .f32⟩
  | 16 => ⟨S1792x3584, .f32⟩
  | 17 => ⟨S1792x3584, .f32⟩
  | 18 => ⟨S1792x3584, .f32⟩
  | 19 => ⟨S1792x3584, .bf16⟩
  | 20 => ⟨S2x896x3584, .bf16⟩
  | 21 => ⟨S12288x3584, .f32⟩
  | 22 => ⟨S1792x1, .f32⟩
  | 23 => ⟨S1792x3584, .f32⟩
  | 24 => ⟨S1792x3584, .f32⟩
  | 25 => ⟨S1792x3584, .f32⟩
  | 26 => ⟨S_, .i32⟩
  | 27 => ⟨S12288, .i32⟩
  | 28 => ⟨S12288, .i1⟩
  | 29 => ⟨S_, .i32⟩
  | 30 => ⟨S12288, .i32⟩
  | 31 => ⟨S12288, .i32⟩
  | 32 => ⟨S12288, .i32⟩
  | 33 => ⟨S12288x1, .i32⟩
  | 34 => ⟨S32768x3584, .f32⟩
  | 35 => ⟨S_, .i32⟩
  | 36 => ⟨S1792, .i32⟩
  | 37 => ⟨S1792, .i1⟩
  | 38 => ⟨S_, .i32⟩
  | 39 => ⟨S1792, .i32⟩
  | 40 => ⟨S1792, .i32⟩
  | 41 => ⟨S1792, .i32⟩
  | 42 => ⟨S1792x1, .i32⟩
  | 43 => ⟨S32768x3584, .f32⟩
  | 44 => ⟨S2x896, .f32⟩
  | _ => ⟨S2x896x3584, .bf16⟩

abbrev hbmTy (i : Nat) : BufTy := match i / 128 with
  | 0 => hbmTy0_0 i
  | 1 => hbmTy0_1 i
  | _ => ⟨S2x896x3584, .bf16⟩

abbrev bufTy : (tb : Table) → Fin (tcTables nBuf tb) → BufTy
  | .hbm, ⟨i, _⟩ => hbmTy i
  | _, _ => ⟨S2x896x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_c_7 : Ref sig .tc := ⟨.hbm, 66, rfl⟩
abbrev main_v50 : Ref sig .tc := ⟨.hbm, 67, rfl⟩
abbrev main_v51 : Ref sig .tc := ⟨.hbm, 68, rfl⟩
abbrev main_c_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst : Ref sig .tc := ⟨.hbm, 83, rfl⟩
abbrev main_call0_v0 : Ref sig .tc := ⟨.hbm, 84, rfl⟩
abbrev main_call0_v1 : Ref sig .tc := ⟨.hbm, 85, rfl⟩
abbrev main_v65 : Ref sig .tc := ⟨.hbm, 86, rfl⟩
abbrev main_v66 : Ref sig .tc := ⟨.hbm, 87, rfl⟩
abbrev main_c_9 : Ref sig .tc := ⟨.hbm, 88, rfl⟩
abbrev main_v67 : Ref sig .tc := ⟨.hbm, 89, rfl⟩
abbrev main_v68 : Ref sig .tc := ⟨.hbm, 90, rfl⟩
abbrev main_c_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_call1_v0 : Ref sig .tc := ⟨.hbm, 105, rfl⟩
abbrev main_call1_v1 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_15 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_c_16 : Ref sig .tc := ⟨.hbm, 154, rfl⟩
abbrev main_v124 : Ref sig .tc := ⟨.hbm, 155, rfl⟩
abbrev main_v125 : Ref sig .tc := ⟨.hbm, 156, rfl⟩
abbrev main_c_17 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_c_18 : Ref sig .tc := ⟨.hbm, 163, rfl⟩
abbrev main_v131 : Ref sig .tc := ⟨.hbm, 164, rfl⟩
abbrev main_v132 : Ref sig .tc := ⟨.hbm, 165, rfl⟩
abbrev main_c_19 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩

abbrev nD : Nat := 1
abbrev τ : Topo := Topo.v7x

variable {F : FTy → Type} [FloatOps F]
-- ==== Proof.HostVals.lean ====
/-
What the kernel's host operations leave in the buffers its three passes read.
-/
module

public import proofs.«01_k».proof.Proof.Gen.KernelIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg) (c : Dev nD)

/-- The row numbers of the sampled columns, a negative one counted from the end. -/
def idsIdx (ids : IVec S12288 32) : IVec S12288x1 32 :=
  broadcastInDim S12288x1 ![0] bcast_S12288_S12288x1_0
    (select (cmpi .slt ids (broadcastInDim S12288 ![] bcast_S_S12288 (constantI S_ 32 0#32)))
      (addi ids (broadcastInDim S12288 ![] bcast_S_S12288 (constantI S_ 32 32768#32))) ids)

/-- The row numbers of the tokens' targets, a negative one counted from the end. -/
def tgtIdx (tgt : IVec S1792 32) : IVec S1792x1 32 :=
  broadcastInDim S1792x1 ![0] bcast_S1792_S1792x1_0
    (select (cmpi .slt tgt (broadcastInDim S1792 ![] bcast_S_S1792 (constantI S_ 32 0#32)))
      (addi tgt (broadcastInDim S1792 ![] bcast_S_S1792 (constantI S_ 32 32768#32))) tgt)

/-- The scale table padded from 112 to 128 lanes. -/
def padS (s : FVec Ideal S32768x112 .f32) : FVec Ideal S32768x128 .bf16 :=
  pad S32768x128 ![0, 0] ![0, 16] ![0, 0] (truncf .bf16 s bitsLt_bf16_f32) (sitofp .bf16 (constantI S_ 32 0#32))
    pads_S32768x112_S32768x128_000_0160 h_S_

/-- The targets as one column of tokens. -/
def tgtOf (t : IVec S2x896 32) : IVec S1792 32 := shapeCast S1792 t shapeCasts_S2x896_S1792

/-- The incoming gradients, one per token. -/
def gOf (g : FVec Ideal S2x896 .f32) : FVec Ideal S1792x1 .f32 := shapeCast S1792x1 g shapeCasts_S2x896_S1792x1

/-- The hidden states, one row per token. -/
def hOf (x : FVec Ideal S2x896x3584 .bf16) : FVec Ideal S1792x3584 .bf16 :=
  shapeCast S1792x3584 x shapeCasts_S2x896x3584_S1792x3584

/-- The hidden states at the first pass. -/
theorem W3_v0 : W3 m ρ c (Proc.devRef .tc main_v0)
    = hOf (m ((c : Thread nD τ).loc main_arg0)) := by
  unfold W3
  after_results
  rfl

/-- The flat targets at the first pass. -/
theorem W3_v1 : W3 m ρ c (Proc.devRef .tc main_v1)
    = tgtOf (m ((c : Thread nD τ).loc main_arg5)) := by
  unfold W3
  after_results
  rfl

/-- The incoming gradients at the first pass. -/
theorem W3_v2 : W3 m ρ c (Proc.devRef .tc main_v2)
    = gOf (m ((c : Thread nD τ).loc main_arg6)) := by
  unfold W3
  after_results
  rfl

/-- The sampled rows' codes. -/
theorem W3_v11 : W3 m ρ c (Proc.devRef .tc main_v11)
    = Host.gather gather_S32768x3584_S12288x1_S12288x3584_1_0_n_n_0_1_13584 (m ((c : Thread nD τ).loc main_arg1)) (idsIdx (m ((c : Thread nD τ).loc main_arg4))) := by
  unfold W3
  after_results
  rfl

/-- The target rows' codes. -/
theorem W3_v18 : W3 m ρ c (Proc.devRef .tc main_v18)
    = Host.gather gather_S32768x3584_S1792x1_S1792x3584_1_0_n_n_0_1_13584 (m ((c : Thread nD τ).loc main_arg1)) (tgtIdx (tgtOf (m ((c : Thread nD τ).loc main_arg5)))) := by
  unfold W3
  after_results
  rfl

/-- The padded scales. -/
theorem W3_v4 : W3 m ρ c (Proc.devRef .tc main_v4)
    = padS (m ((c : Thread nD τ).loc main_arg2)) := by
  unfold W3
  after_results
  rfl

/-- The sampled rows' scales. -/
theorem W3_v25 : W3 m ρ c (Proc.devRef .tc main_v25)
    = Host.gather gather_S32768x128_S12288x1_S12288x128_1_0_n_n_0_1_1128 (padS (m ((c : Thread nD τ).loc main_arg2))) (idsIdx (m ((c : Thread nD τ).loc main_arg4))) := by
  unfold W3
  after_results
  rfl

/-- The sampled rows' log probabilities. -/
theorem W3_v33 : W3 m ρ c (Proc.devRef .tc main_v33)
    = shapeCast S24x1x512 (Host.gather gather_S32768_S12288x1_S12288_n_0_n_n_0_1_1 (m ((c : Thread nD τ).loc main_arg3)) (idsIdx (m ((c : Thread nD τ).loc main_arg4)))) shapeCasts_S12288_S24x1x512 := by
  unfold W3
  after_results
  rfl

/-- The sampled row numbers, tile by tile. -/
theorem W3_v34 : W3 m ρ c (Proc.devRef .tc main_v34)
    = shapeCast S24x1x512 (m ((c : Thread nD τ).loc main_arg4)) shapeCasts_S12288_S24x1x512 := by
  unfold W3
  after_results
  rfl

/-- The targets as a column. -/
theorem W3_v35 : W3 m ρ c (Proc.devRef .tc main_v35)
    = shapeCast S1792x1 (tgtOf (m ((c : Thread nD τ).loc main_arg5))) shapeCasts_S1792_S1792x1 := by
  unfold W3
  after_results
  rfl

end Cert.KernelIdeal.Value

end

end
-- ==== Proof.LogSumExp.lean ====
/-
The mathematics of the log-sum-exp over the extended reals.

`wt z` is the real weight `exp z` of a score that is a real number or `-∞` (weight 0).  `Good m s E` says that a
running pair (maximum `m`, rescaled sum `s`) stands for the plain sum of weights `E`.  The online update preserves
it (`Good.step`), the merge of all lanes gives `log (∑ E + exp zt)` (`merge_lse`), and the reference's
`logaddexp zt (logsumexp z)` is the same number (`ref_lse`).
-/
module

public import Idealize.ShloMosaic.PureOps.Ideal
public import Idealize.ShloMosaic.PureOps.Ideal.Laws

@[expose] public section

noncomputable section

open Idealize.ShloMosaic

namespace Cert.Lse

/-- The weight `exp z` of a score, as a real number; `-∞` weighs nothing. -/
def wt (z : EReal) : ℝ := if z = ⊥ then 0 else Real.exp z.toReal

/-- The shift the online softmax subtracts: the maximum, or 0 where nothing has been seen. -/
def safe (m : EReal) : EReal := if m = ⊥ then 0 else m

/-- `-∞` weighs nothing. -/
theorem wt_bot : wt ⊥ = 0 := if_pos rfl

/-- A real score weighs its exponential. -/
theorem wt_coe (r : ℝ) : wt (r : EReal) = Real.exp r := by
  rw [wt, if_neg (EReal.coe_ne_bot r), EReal.toReal_coe]

/-- Weights are nonnegative. -/
theorem wt_nonneg (z : EReal) : 0 ≤ wt z := by
  unfold wt; split_ifs
  · exact le_rfl
  · exact (Real.exp_pos _).le

/-- A score that is not `-∞` has positive weight. -/
theorem wt_pos {z : EReal} (h : z ≠ ⊥) : 0 < wt z := by
  unfold wt; rw [if_neg h]; exact Real.exp_pos _

/-- The exponential of a shifted score is its weight times the exponential of minus the shift. -/
theorem exp_sub {z : EReal} (hz : z ≠ ⊤) (r : ℝ) :
    Ideal.exp (z - (r : EReal)) = ((wt z * Real.exp (-r) : ℝ) : EReal) := by
  induction z with
  | bot => rw [EReal.bot_sub, Ideal.exp_bot, wt_bot, zero_mul]; rfl
  | top => exact absurd rfl hz
  | coe a => rw [wt_coe, ← EReal.coe_sub, Ideal.exp_coe, ← Real.exp_add, sub_eq_add_neg]

/-- The shift is a real number. -/
theorem safe_coe {m : EReal} (hm : m ≠ ⊤) : safe m = (((safe m).toReal : ℝ) : EReal) := by
  unfold safe; split_ifs with h
  · rfl
  · exact (EReal.coe_toReal hm h).symm

/-- A running maximum `m` and rescaled sum `s` stand for the plain sum of weights `E`. -/
structure Good (m s : EReal) (E : ℝ) : Prop where
  /-- the maximum is not `+∞` -/
  ne_top : m ≠ ⊤
  /-- the rescaled sum is the plain one times the exponential of minus the shift -/
  sum_eq : s = ((E * Real.exp (-(safe m).toReal) : ℝ) : EReal)
  /-- where nothing but `-∞` was seen, the plain sum is 0 -/
  bot : m = ⊥ → E = 0

/-- Before any score: maximum `-∞`, sum 0. -/
theorem Good.init : Good ⊥ 0 0 :=
  ⟨bot_ne_top, by rw [zero_mul]; rfl, fun _ => rfl⟩

/-- The rescaling of the old sum to the new shift. -/
theorem Good.rescale {m s : EReal} {E : ℝ} (h : Good m s E) (r : ℝ) :
    s * Ideal.exp (m - (r : EReal)) = ((E * Real.exp (-r) : ℝ) : EReal) := by
  rw [exp_sub h.ne_top, h.sum_eq, ← EReal.coe_mul]
  congr 1
  by_cases hm : m = ⊥
  · rw [h.bot hm]; ring
  · rw [safe, if_neg hm, wt, if_neg hm]
    have : Real.exp (-m.toReal) * Real.exp m.toReal = 1 := by rw [← Real.exp_add]; simp
    calc E * Real.exp (-m.toReal) * (Real.exp m.toReal * Real.exp (-r))
        = E * (Real.exp (-m.toReal) * Real.exp m.toReal) * Real.exp (-r) := by ring
      _ = _ := by rw [this, mul_one]

/-- One online update with four scores keeps the invariant, the plain sum growing by their four weights. -/
theorem Good.step {m s : EReal} {E : ℝ} (h : Good m s E) {z0 z1 z2 z3 : EReal}
    (h0 : z0 ≠ ⊤) (h1 : z1 ≠ ⊤) (h2 : z2 ≠ ⊤) (h3 : z3 ≠ ⊤) {M : EReal}
    (hM : M = max (max (max (max m z0) z1) z2) z3) :
    Good M (s * Ideal.exp (m - safe M) + Ideal.exp (z0 - safe M) + Ideal.exp (z1 - safe M) + Ideal.exp (z2 - safe M)
      + Ideal.exp (z3 - safe M)) (E + (wt z0 + wt z1 + wt z2 + wt z3)) := by
  have hMt : M ≠ ⊤ := by
    rw [hM]; intro e
    simp only [max_eq_top, h.ne_top, h0, h1, h2, h3, or_self] at e
  refine ⟨hMt, ?_, ?_⟩
  · obtain ⟨r, hr⟩ : ∃ r : ℝ, safe M = (r : EReal) := ⟨_, safe_coe hMt⟩
    rw [hr, h.rescale, exp_sub h0, exp_sub h1, exp_sub h2, exp_sub h3, EReal.toReal_coe,
      ← EReal.coe_add, ← EReal.coe_add, ← EReal.coe_add, ← EReal.coe_add]
    congr 1; ring
  · intro e
    rw [hM] at e
    simp only [max_eq_bot] at e
    obtain ⟨⟨⟨⟨hm, e0⟩, e1⟩, e2⟩, e3⟩ := e
    rw [h.bot hm, e0, e1, e2, e3, wt_bot]; norm_num

/-- A sum of real numbers, read in the extended reals. -/
theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

/-- The logarithm of a positive real. -/
theorem log_pos_coe {r : ℝ} (h : 0 < r) : Ideal.log (r : EReal) = ((Real.log r : ℝ) : EReal) := by
  rw [Ideal.log_coe, if_neg (not_le.2 h)]

/-- Merging lanes: with the lanes' invariants and a real target score, the kernel's expression is the logarithm of
    the total weight. -/
theorem merge_lse {n : ℕ} (m s : Fin n → EReal) (E : Fin n → ℝ) (hg : ∀ l, Good (m l) (s l) (E l))
    (hE : ∀ l, 0 ≤ E l) (zt : ℝ) (M : EReal) (hM : M = max (Finset.univ.fold max ⊥ m) (zt : EReal)) :
    M + Ideal.log ((∑ l, s l * Ideal.exp (m l - M)) + Ideal.exp ((zt : EReal) - M))
      = ((Real.log ((∑ l, E l) + Real.exp zt) : ℝ) : EReal) := by
  have hMt : M ≠ ⊤ := by
    rw [hM]; refine ne_of_lt (max_lt ?_ (EReal.coe_lt_top _))
    refine (Finset.fold_max_lt _).2 ⟨bot_lt_top, fun l _ => lt_top_iff_ne_top.2 (hg l).ne_top⟩
  have hMb : M ≠ ⊥ := by
    rw [hM]; exact ne_of_gt (lt_of_lt_of_le (EReal.bot_lt_coe zt) (le_max_right _ _))
  obtain ⟨r, rfl⟩ : ∃ r : ℝ, M = (r : EReal) := ⟨_, (EReal.coe_toReal hMt hMb).symm⟩
  have hpos : 0 < (∑ l, E l) + Real.exp zt := add_pos_of_nonneg_of_pos (Finset.sum_nonneg fun l _ => hE l) (Real.exp_pos _)
  have hs : (∑ l, s l * Ideal.exp (m l - (r : EReal))) = (((∑ l, E l) * Real.exp (-r) : ℝ) : EReal) := by
    rw [Finset.sum_mul, coe_sum]
    exact Finset.sum_congr rfl fun l _ => (hg l).rescale r
  rw [hs, exp_sub (EReal.coe_ne_top zt), wt_coe, ← EReal.coe_add, ← add_mul,
    log_pos_coe (mul_pos hpos (Real.exp_pos _)), ← EReal.coe_add, Real.log_mul hpos.ne' (Real.exp_pos _).ne', Real.log_exp]
  congr 1; ring

/-- The reference's `logsumexp` of scores that are real or `-∞`: the logarithm of the total weight (`-∞` if it is 0). -/
theorem ref_logsumexp {n : ℕ} (z : Fin n → EReal) (hz : ∀ i, z i ≠ ⊤) (m : EReal)
    (hm : m = Finset.univ.fold max ⊥ z) :
    Ideal.log (∑ i, Ideal.exp (z i - safe m)) + safe m = Ideal.log ((∑ i, wt (z i) : ℝ) : EReal) := by
  have hmt : m ≠ ⊤ := by
    rw [hm]; exact ne_of_lt ((Finset.fold_max_lt _).2 ⟨bot_lt_top, fun l _ => lt_top_iff_ne_top.2 (hz l)⟩)
  obtain ⟨r, hr⟩ : ∃ r : ℝ, safe m = (r : EReal) := ⟨_, safe_coe hmt⟩
  have hs : (∑ i, Ideal.exp (z i - (r : EReal))) = (((∑ i, wt (z i)) * Real.exp (-r) : ℝ) : EReal) := by
    rw [Finset.sum_mul, coe_sum]
    exact Finset.sum_congr rfl fun i _ => exp_sub (hz i) r
  rw [hr, hs]
  rcases (Finset.sum_nonneg fun i (_ : i ∈ Finset.univ) => wt_nonneg (z i)).eq_or_lt with h0 | hpos
  · rw [← h0, zero_mul, Ideal.log_coe, if_pos le_rfl, EReal.bot_add]
  · rw [log_pos_coe (mul_pos hpos (Real.exp_pos _)), log_pos_coe hpos, ← EReal.coe_add,
      Real.log_mul hpos.ne' (Real.exp_pos _).ne', Real.log_exp]
    congr 1; ring

/-- `logaddexp` of a real score and the logarithm of a nonnegative weight. -/
theorem ref_logaddexp (zt : ℝ) (E : ℝ) (hE : 0 ≤ E) (L : EReal) (hL : L = Ideal.log (E : EReal)) :
    max (zt : EReal) L + Ideal.log (1 + Ideal.exp (-(max ((zt : EReal) - L) (-((zt : EReal) - L)))))
      = ((Real.log (E + Real.exp zt) : ℝ) : EReal) := by
  rcases hE.eq_or_lt with h0 | hpos
  · have : L = ⊥ := by rw [hL, ← h0, Ideal.log_coe, if_pos le_rfl]
    rw [this, ← h0, zero_add, Real.log_exp]
    have e1 : (zt : EReal) - ⊥ = ⊤ := by rw [sub_eq_add_neg, EReal.neg_bot, EReal.coe_add_top]
    rw [e1, max_eq_left bot_le, max_eq_left le_top, EReal.neg_top, Ideal.exp_bot, add_zero]
    have : Ideal.log 1 = 0 := by
      have := log_pos_coe (r := 1) one_pos
      rw [Real.log_one] at this
      exact this
    rw [this, add_zero]
  · obtain ⟨b, hb⟩ : ∃ b : ℝ, b = Real.log E := ⟨_, rfl⟩
    have hEb : E = Real.exp b := by rw [hb, Real.exp_log hpos]
    rw [hL, log_pos_coe hpos, ← hb, hEb]
    rw [← EReal.coe_sub, ← EReal.coe_neg, ← EReal.coe_strictMono.monotone.map_max, ← EReal.coe_strictMono.monotone.map_max,
      ← EReal.coe_neg, Ideal.exp_coe]
    have e1 : (1 : EReal) = ((1 : ℝ) : EReal) := rfl
    rw [e1, ← EReal.coe_add, log_pos_coe (add_pos one_pos (Real.exp_pos _)), ← EReal.coe_add]
    congr 1
    have key : ∀ a c : ℝ, c ≤ a → a + Real.log (1 + Real.exp (-(a - c))) = Real.log (Real.exp c + Real.exp a) := by
      intro a c _
      have : Real.exp c + Real.exp a = Real.exp a * (1 + Real.exp (-(a - c))) := by
        rw [mul_add, mul_one, ← Real.exp_add]; ring_nf
      rw [this, Real.log_mul (Real.exp_pos _).ne' (by positivity), Real.log_exp]
    rcases le_total b zt with h | h
    · rw [max_eq_left h, max_eq_left (by linarith : -(zt - b) ≤ zt - b)]
      exact key zt b h
    · rw [max_eq_right h, max_eq_right (by linarith : zt - b ≤ -(zt - b)), neg_sub, add_comm (Real.exp b)]
      exact key b zt h

/-- The f32 pattern of `-∞`. -/
theorem ofBits_bot : Ideal.ofBits .f32 0xFF800000#32 = (⊥ : EReal) := by
  simp [Ideal.ofBits, Ideal.ieee]

/-- The f32 pattern of `+∞`. -/
theorem ofBits_top : Ideal.ofBits .f32 0x7F800000#32 = (⊤ : EReal) := by
  simp [Ideal.ofBits, Ideal.ieee]

end Cert.Lse

end

end
-- ==== Proof.Dequant.lean ====
/-
The dequantized rows: the kernel expands the row's group scales with a product by a 0/1 matrix; at one element that
product is the scale of the element's group.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- A selection on the equality of two words. -/
theorem select_eq {α : Type} {w : ℕ} (a b : BitVec w) (x y : α) :
    Scalar.select (IntOp.cmpi CmpIPredicate.eq a b) x y = if a = b then x else y := by
  by_cases h : a = b
  · subst h; simp [Scalar.select, IntOp.cmpi]
  · have hb : (a == b) = false := beq_eq_false_iff_ne.2 h
    simp [Scalar.select, IntOp.cmpi, h, hb]

/-- The printed floor division of a column by 32, as a word: the number of the column's group. -/
abbrev groupWord (d : ℕ) : BitVec 32 :=
  Scalar.select
    (IntOp.andi
      (IntOp.cmpi CmpIPredicate.ne
        (IntOp.subi (BitVec.setWidth 32 (IntOp.cmpi CmpIPredicate.sgt (BitVec.ofNat 32 d) 0#32))
          (BitVec.setWidth 32 (IntOp.cmpi CmpIPredicate.slt (BitVec.ofNat 32 d) 0#32)))
        (Scalar.subi (Scalar.extui (Scalar.cmpi CmpIPredicate.sgt 32#32 0#32))
          (Scalar.extui (Scalar.cmpi CmpIPredicate.slt 32#32 0#32))))
      (IntOp.cmpi CmpIPredicate.ne (IntOp.remsi ArithUnit.vector (BitVec.ofNat 32 d) 32#32) 0#32))
    (IntOp.subi (IntOp.divsi ArithUnit.vector (BitVec.ofNat 32 d) 32#32) 1#32)
    (IntOp.divsi ArithUnit.vector (BitVec.ofNat 32 d) 32#32)

/-- It is `d / 32`, for every column. -/
theorem groupWord_eq : ∀ d : Fin 3584, groupWord d.val = BitVec.ofNat 32 (d.val / 32) := by
  decide +kernel

/-- A sum over the 128 scale lanes that keeps only the lane whose number is the column's group. -/
theorem sum_group (f : Fin 128 → EReal) (d : Fin 3584) :
    (∑ l : Fin 128, Scalar.select (IntOp.cmpi CmpIPredicate.eq (BitVec.ofNat 32 l.val) (groupWord d.val)) (f l) 0)
      = f ⟨d.val / 32, by omega⟩ := by
  rw [groupWord_eq d, Finset.sum_eq_single (⟨d.val / 32, by omega⟩ : Fin 128)]
  · rw [select_eq, if_pos rfl]
  · intro l _ hl
    have : ¬ (BitVec.ofNat 32 l.val = BitVec.ofNat 32 (d.val / 32)) := by
      intro e
      have e' := congrArg BitVec.toNat e
      simp only [BitVec.toNat_ofNat] at e'
      exact hl (Fin.ext (by show l.val = d.val / 32; omega))
    rw [select_eq, if_neg this]
  · intro h; exact absurd (Finset.mem_univ _) h

/-- Pass 1's dequantized tile at row `r`, column `d`: the code times the scale of group `d / 32`. -/
theorem dequant0_at (codes : IVec S512x3584 8) (s : FVec Ideal S512x128 .bf16) (r : Fin 512) (d : Fin 3584) :
    k0_pay4 (F := Ideal) codes s (ix2 r d)
      = FloatOps.sitofp (F := Ideal) .f32 (codes (ix2 r d)) * s (ix2 r ⟨d.val / 32, by omega⟩) := by
  pointwise [k0_pay4]
  exact congrArg _ (sum_group (fun l => s (ix2 r l)) d)

/-- The target kernel's dequantized tile at row `r`, column `d`: the code times the scale of group `d / 32`. -/
theorem dequant1_at (codes : IVec S256x3584 8) (s : FVec Ideal S256x128 .bf16) (r : Fin 256) (d : Fin 3584) :
    k1_pay1 (F := Ideal) codes s (ix2 r d)
      = FloatOps.sitofp (F := Ideal) .f32 (codes (ix2 r d)) * s (ix2 r ⟨d.val / 32, by omega⟩) := by
  pointwise [k1_pay1]
  exact congrArg _ (sum_group (fun l => s (ix2 r l)) d)

end Cert.KernelIdeal.Value

end

end
-- ==== Proof.Pass1Pure.lean ====
/-
What one grid point of the first pass computes, read at one element: the masked scores of a tile, the new running
maximum of a lane and its new running sum.
-/
module

public import proofs.«01_k».proof.Proof.LogSumExp
public import proofs.«01_k».proof.Proof.Dequant

@[expose] public section

set_option maxRecDepth 16384

noncomputable section

open Idealize.ShloMosaic Idealize.ShloMosaic.TcCoe Idealize.SL.Sem

namespace Cert.KernelIdeal.Value

open Cert.KernelIdeal Cert.KernelIdeal.Gen

open Cert.Lse

/-- The score tile at token `t`, column `n`: `-∞` where the column's id is the token's target, otherwise the product
    of the token with the column's row minus the column's log-probability. -/
theorem score0_at (x : FVec Ideal S1792x3584 .bf16) (rows : FVec Ideal S512x3584 .bf16) (lq : FVec Ideal S1x1x512 .f32)
    (tgt : IVec S1792x1 32) (ids : IVec S1x1x512 32) (t : Fin 1792) (n : Fin 512) :
    k0_pay5 (F := Ideal) x rows lq tgt ids (ix2 t n)
      = if tgt (ix2 t 0) = ids (ix3 0 0 n) then ⊥
        else (∑ k : Fin 3584, x (ix2 t k) * rows (ix2 n k)) - lq (ix3 0 0 n) := by
  pointwise [k0_pay5]
  rw [select_eq, ofBits_bot]

/-- The new running maximum of a lane: the old one and the lane's four scores of the tile. -/
theorem max0_at (x : FVec Ideal S1792x3584 .bf16) (rows : FVec Ideal S512x3584 .bf16) (lq : FVec Ideal S1x1x512 .f32)
    (tgt : IVec S1792x1 32) (ids : IVec S1x1x512 32) (m : FVec Ideal S1792x128 .f32) (t : Fin 1792) (l : Fin 128) :
    k0_pay8 (F := Ideal) x rows lq tgt ids m (ix2 t l)
      = max (max (max (max (m (ix2 t l)) (k0_pay5 (F := Ideal) x rows lq tgt ids (ix2 t ⟨l.val, by omega⟩)))
          (k0_pay5 (F := Ideal) x rows lq tgt ids (ix2 t ⟨128 + l.val, by omega⟩)))
          (k0_pay5 (F := Ideal) x rows lq tgt ids (ix2 t ⟨256 + l.val, by omega⟩)))
          (k0_pay5 (F := Ideal) x rows lq tgt ids (ix2 t ⟨384 + l.val, by omega⟩)) := by
  pointwise [k0_pay8, k0_pay7]

/-- The new running sum of a lane: the old one rescaled to the new maximum, plus the four new terms. -/
theorem sum0_at (z : FVec Ideal S1792x512 .f32) (x : FVec Ideal S1792x3584 .bf16) (rows : FVec Ideal S512x3584 .bf16) (lq : FVec Ideal S1x1x512 .f32)
    (tgt : IVec S1792x1 32) (ids : IVec S1x1x512 32) (m s : FVec Ideal S1792x128 .f32) (t : Fin 1792) (l : Fin 128) :
    k0_pay1 (F := Ideal) z (k0_pay7 (F := Ideal) m) (k0_pay8 (F := Ideal) x rows lq tgt ids m) (k0_pay9 (F := Ideal) x rows lq tgt ids m)
        (k0_pay10 (F := Ideal)) s (ix2 t l)
      = s (ix2 t l) * Ideal.exp (m (ix2 t l) - safe (k0_pay8 (F := Ideal) x rows lq tgt ids m (ix2 t l)))
        + Ideal.exp (z (ix2 t ⟨l.val, by omega⟩) - safe (k0_pay8 (F := Ideal) x rows lq tgt ids m (ix2 t l)))
        + Ideal.exp (z (ix2 t ⟨128 + l.val, by omega⟩) - safe (k0_pay8 (F := Ideal) x rows lq tgt ids m (ix2 t l)))
        + Ideal.exp (z (ix2 t ⟨256 + l.val, by omega⟩) - safe (k0_pay8 (F := Ideal) x rows lq tgt ids m (ix2 t l)))
        + Ideal.exp (z (ix2 t ⟨384 + l.val, by omega⟩) - safe (k0_pay8 (F := Ideal) x rows lq tgt ids m (ix2 t l))) := by
  pointwise [k0_pay1, k0_pay7, k0_pay9, k0_pay10]
  rw [ofBits_bot]
  rfl

/-- One grid point keeps a lane's pair good: its weight grows by the four columns the tile has in the lane. -/
theorem pair_step (x : FVec Ideal S1792x3584 .bf16) (rows : FVec Ideal S512x3584 .bf16) (lq : FVec Ideal S1x1x512 .f32)
    (tgt : IVec S1792x1 32) (ids : IVec S1x1x512 32) (m s : FVec Ideal S1792x128 .f32) (t : Fin 1792) (l : Fin 128) (E : ℝ)
    (hg : Good (m (ix2 t l)) (s (ix2 t l)) E)
    (hz : ∀ n : Fin 512, k0_pay5 (F := Ideal) x rows lq tgt ids (ix2 t n) ≠ (⊤ : EReal)) :
    Good (k0_pay8 (F := Ideal) x rows lq tgt ids m (ix2 t l))
      (k0_pay1 (F := Ideal) (k0_pay5 (F := Ideal) x rows lq tgt ids) (k0_pay7 (F := Ideal) m)
        (k0_pay8 (F := Ideal) x rows lq tgt ids m) (k0_pay9 (F := Ideal) x rows lq tgt ids m) (k0_pay10 (F := Ideal)) s (ix2 t l))
      (E + (wt (k0_pay5 (F := Ideal) x rows lq tgt ids (ix2 t ⟨l.val, by omega⟩))
        + wt (k0_pay5 (F := Ideal) x rows lq tgt ids (ix2 t ⟨128 + l.val, by omega⟩))
        + wt (k0_pay5 (F := Ideal) x rows lq tgt ids (ix2 t ⟨256 + l.val, by omega⟩))
        + wt (k0_pay5 (F := Ideal) x rows lq tgt ids (ix2 t ⟨384 + l.val, by omega⟩)))) := by
  rw [sum0_at]
  exact Good.step hg (hz _) (hz _) (hz _) (hz _) (max0_at x rows lq tgt ids m t l)

/-- The running maximum starts at `-∞`. -/
theorem init_max (j : S1792x128.Idx) : k0_pay2 (F := Ideal) j = (⊥ : EReal) := by
  pointwise [k0_pay2]
  exact ofBits_bot

/-- The running sum starts at 0. -/
theorem init_sum (j : S1792x128.Idx) : k0_pay3 (F := Ideal) j = (0 : EReal) := by
  pointwise [k0_pay3]

end Cert.KernelIdeal.Value

end

end
-- ==== Proof.Pass1.lean ====
/-
The first pass over the grid of column tiles: what its four output arrays hold at the end.
-/
module

public import proofs.«01_k».proof.Proof.Gen.KernelIdeal.Frame
public import Idealize.ShloMosaic.Lib.Pipeline.ValueKit
public import proofs.«01_k».proof.Proof.Pass1Pure

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

open Cert.Lse

variable (V : (c : Dev nD) → (b : Ref sig .tc) → Buf (Elt Ideal) ((c : Thread nD τ).loc b)) (c : Dev nD)

/-- The block indices of the first pass's windows: the token arrays stay, the column arrays move with the tile. -/
theorem idx0 : ∀ t : Fin cfg0.N, win0_0.index t = ![0, 0] ∧ win0_1.index t = ![t.val, 0] ∧ win0_2.index t = ![t.val, 0]
    ∧ win0_3.index t = ![t.val, 0, 0] ∧ win0_4.index t = ![t.val, 0, 0] ∧ win0_5.index t = ![0, 0]
    ∧ win0_6.index t = ![t.val, 0, 0] ∧ win0_7.index t = ![t.val, 0] ∧ win0_8.index t = ![0, 0] ∧ win0_9.index t = ![0, 0] :=
  (by decide +kernel : ∀ t : Fin grid0.N, _)

/-- The dequantized rows of the sampled columns: the code times the scale of its group of 32 columns. -/
def rowsOf (codes : IVec S12288x3584 8) (s : FVec Ideal S12288x128 .bf16) : FVec Ideal S12288x3584 .bf16 :=
  fun j => FloatOps.sitofp (F := Ideal) .f32 (codes j)
    * s (ix2 (j 0) ⟨(j 1 : ℕ) / 32, by have h : (j 1 : ℕ) < 3584 := (j 1).isLt; omega⟩)

/-- The masked scores, tile by tile: `-∞` where the column's id is the token's target, otherwise the product of the
    token with the column's row minus the column's log-probability. -/
def scoresOf (x : FVec Ideal S1792x3584 .bf16) (rows : FVec Ideal S12288x3584 .bf16) (lq : FVec Ideal S24x1x512 .f32)
    (ids : IVec S24x1x512 32) (tgt : IVec S1792x1 32) : FVec Ideal S24x1792x512 .f32 :=
  fun j => if tgt (ix2 (j 1) 0) = ids (ix3 (j 0) 0 (j 2)) then ⊥
    else (∑ k : Fin 3584, x (ix2 (j 1) k) * rows (ix2 ⟨(j 0 : ℕ) * 512 + (j 2 : ℕ), by
        have h0 : (j 0 : ℕ) < 24 := (j 0).isLt
        have h2 : (j 2 : ℕ) < 512 := (j 2).isLt
        omega⟩ k)) - lq (ix3 (j 0) 0 (j 2))

/-- The scores of the pass whose arrays the region finds in `V`. -/
abbrev scoresAt : FVec Ideal S24x1792x512 .f32 :=
  scoresOf (V c main_v0) (rowsOf (V c main_v11) (V c main_v25)) (V c main_v33) (V c main_v34) (V c main_v35)

/-- The dequantized tile of a point is the point's part of the rows. -/
theorem rows_blk (t : Fin cfg0.N) (y : S512x3584.Idx) :
    k0_pay4 (F := Ideal) (iblk0 V c 1 t) (iblk0 V c 2 t) y
      = rowsOf (V c main_v11) (V c main_v25) (((cfg0.win 7).blk t).view.emb y) := by
  idx_vars y
  refine (dequant0_at _ _ _ _).trans ?_
  unfold rowsOf
  blk_point [iblk0, idx0 t]

/-- The rows array after the pass. -/
theorem rows_final : (dat0 V c).arrAt 7 cfg0.N = rowsOf (V c main_v11) (V c main_v25) := by
  refine (dat0 V c).arrAt_eq_of_covers 7 _ (by decide +kernel) fun t hf y => ?_
  blk_simp
  rw [after0_7]
  by_cases h : t.val % 24 = 0
  · rw [outsAt0_A V c t h]; frame_out
    exact rows_blk V c t y
  · rw [outsAt0_B V c t h]; frame_out
    exact rows_blk V c t y

/-- A point's score tile over the blocks it loads. -/
abbrev tile (t : Fin cfg0.N) : FVec Ideal S1792x512 .f32 :=
  k0_pay5 (F := Ideal) (iblk0 V c 0 t) (k0_pay4 (F := Ideal) (iblk0 V c 1 t) (iblk0 V c 2 t)) (iblk0 V c 3 t) (iblk0 V c 5 t)
    (iblk0 V c 4 t)

/-- The grid has 24 points. -/
theorem lt24 (t : Fin cfg0.N) : t.val < 24 := lt_of_lt_of_eq t.isLt (show cfg0.N = 24 from N_0)

/-- A point's score tile is the point's part of the scores. -/
theorem tile_at (t : Fin cfg0.N) (r : Fin 1792) (n : Fin 512) :
    tile V c t (ix2 r n) = scoresAt V c (ix3 ⟨t.val, lt24 t⟩ r n) := by
  refine (score0_at _ _ _ _ _ r n).trans ?_
  simp only [dequant0_at]
  unfold scoresAt scoresOf rowsOf
  have ht := lt24 t
  blk_point [iblk0, idx0 t]

/-- The score array after the pass. -/
theorem scores_final : (dat0 V c).arrAt 6 cfg0.N = scoresAt V c := by
  refine (dat0 V c).arrAt_eq_of_covers 6 _ (by decide +kernel) fun t hf y => ?_
  blk_simp
  rw [after0_6]
  have key : k0_pay6 (F := Ideal) (iblk0 V c 0 t) (k0_pay4 (F := Ideal) (iblk0 V c 1 t) (iblk0 V c 2 t)) (iblk0 V c 3 t)
      (iblk0 V c 5 t) (iblk0 V c 4 t) y = scoresAt V c (((cfg0.win 6).blk t).view.emb y) := by
    idx_vars y
    have e : k0_pay6 (F := Ideal) (iblk0 V c 0 t) (k0_pay4 (F := Ideal) (iblk0 V c 1 t) (iblk0 V c 2 t)) (iblk0 V c 3 t)
      (iblk0 V c 5 t) (iblk0 V c 4 t) (ix3 y0 y1 y2) = tile V c t (ix2 y1 y2) := by
      pointwise [k0_pay6]
    refine e.trans ((tile_at V c t y1 y2).trans ?_)
    have ht := lt24 t
    generalize scoresAt V c = Z
    blk_ext [idx0 t]
  by_cases h : t.val % 24 = 0
  · rw [outsAt0_A V c t h]; frame_out
    exact key
  · rw [outsAt0_B V c t h]; frame_out
    exact key

/-- The weight a tile adds to a lane: the weights of its four columns in that lane. -/
def laneW (Z : FVec Ideal S24x1792x512 .f32) (r : Fin 1792) (l : Fin 128) (i : Fin 24) : ℝ :=
  wt (Z (ix3 i r ⟨l.val, by omega⟩)) + wt (Z (ix3 i r ⟨128 + l.val, by omega⟩))
    + wt (Z (ix3 i r ⟨256 + l.val, by omega⟩)) + wt (Z (ix3 i r ⟨384 + l.val, by omega⟩))

/-- The same by the number of the tile. -/
def laneWn (Z : FVec Ideal S24x1792x512 .f32) (r : Fin 1792) (l : Fin 128) (i : ℕ) : ℝ :=
  if h : i < 24 then laneW Z r l ⟨i, h⟩ else 0

/-- The weights of the tile's four columns in a lane are the tile's part of the lane's weight. -/
theorem tile_weight (t : Fin cfg0.N) (r : Fin 1792) (l : Fin 128) :
    wt (tile V c t (ix2 r ⟨l.val, by omega⟩)) + wt (tile V c t (ix2 r ⟨128 + l.val, by omega⟩))
      + wt (tile V c t (ix2 r ⟨256 + l.val, by omega⟩)) + wt (tile V c t (ix2 r ⟨384 + l.val, by omega⟩))
      = laneW (scoresAt V c) r l ⟨t.val, lt24 t⟩ := by
  rw [tile_at V c t r ⟨l.val, by omega⟩, tile_at V c t r ⟨128 + l.val, by omega⟩, tile_at V c t r ⟨256 + l.val, by omega⟩,
    tile_at V c t r ⟨384 + l.val, by omega⟩]
  rfl

/-- No score of a tile is `+∞` where none of the scores is. -/
theorem tile_ne_top (hz : ∀ j, scoresAt V c j ≠ (⊤ : EReal)) (t : Fin cfg0.N) (r : Fin 1792) (n : Fin 512) :
    tile V c t (ix2 r n) ≠ (⊤ : EReal) := by
  rw [tile_at V c t r n]; exact hz _

/-- The first point leaves a good pair in every lane. -/
theorem inv_A (hz : ∀ j, scoresAt V c j ≠ (⊤ : EReal)) (t : Fin cfg0.N) (h : t.val % 24 = 0) (r : Fin 1792) (l : Fin 128) :
    Good ((outsAt0 V c t.val t.isLt).2.2.1 (ix2 r l)) ((outsAt0 V c t.val t.isLt).2.2.2 (ix2 r l))
      (0 + laneW (scoresAt V c) r l ⟨t.val, lt24 t⟩) := by
  rw [outsAt0_A V c t h, ← tile_weight V c t r l]
  frame_out
  refine pair_step _ _ _ _ _ _ _ r l 0 ?_ (tile_ne_top V c hz t r)
  rw [init_max, init_sum]
  exact Good.init

/-- Every later point extends the pair the point before left. -/
theorem inv_B (hz : ∀ j, scoresAt V c j ≠ (⊤ : EReal)) (t : Fin cfg0.N) (h : ¬ t.val % 24 = 0) (r : Fin 1792) (l : Fin 128) (E : ℝ)
    (hg : Good ((outsAt0 V c (t.val - 1) (Nat.lt_of_le_of_lt (Nat.sub_le _ _) t.isLt)).2.2.1 (ix2 r l))
      ((outsAt0 V c (t.val - 1) (Nat.lt_of_le_of_lt (Nat.sub_le _ _) t.isLt)).2.2.2 (ix2 r l)) E) :
    Good ((outsAt0 V c t.val t.isLt).2.2.1 (ix2 r l)) ((outsAt0 V c t.val t.isLt).2.2.2 (ix2 r l))
      (E + laneW (scoresAt V c) r l ⟨t.val, lt24 t⟩) := by
  rw [outsAt0_B V c t h, ← tile_weight V c t r l]
  frame_out
  exact pair_step _ _ _ _ _ _ _ r l E hg (tile_ne_top V c hz t r)

/-- After each point, every lane's pair stands for the weights of the tiles seen so far. -/
theorem inv (hz : ∀ j, scoresAt V c j ≠ (⊤ : EReal)) (r : Fin 1792) (l : Fin 128) : ∀ (n : ℕ) (hn : n < cfg0.N),
    Good ((outsAt0 V c n hn).2.2.1 (ix2 r l)) ((outsAt0 V c n hn).2.2.2 (ix2 r l))
      (∑ i ∈ Finset.range (n + 1), laneWn (scoresAt V c) r l i) := by
  intro n
  induction n with
  | zero =>
    intro hn
    have g := inv_A V c hz ⟨0, hn⟩ (Nat.zero_mod _) r l
    rw [Finset.sum_range_succ, Finset.sum_range_zero, laneWn, dif_pos (lt24 ⟨0, hn⟩)]
    exact g
  | succ n ih =>
    intro hn
    have hlt := lt24 ⟨n + 1, hn⟩
    have g := inv_B V c hz ⟨n + 1, hn⟩ (by show ¬ (n + 1) % 24 = 0; have : n + 1 < 24 := hlt; omega) r l _ (ih (Nat.lt_of_succ_lt hn))
    rw [Finset.sum_range_succ, laneWn, dif_pos hlt]
    exact g

/-- The lane's total weight over all tiles. -/
def laneE (Z : FVec Ideal S24x1792x512 .f32) (r : Fin 1792) (l : Fin 128) : ℝ := ∑ i : Fin 24, laneW Z r l i

/-- The last point's number is a point. -/
theorem lt_last : 23 < cfg0.N := lt_of_lt_of_eq (by norm_num : 23 < 24) (show 24 = cfg0.N from N_0.symm)

/-- The running maxima after the pass are the last point's. -/
theorem max_final : (dat0 V c).arrAt 8 cfg0.N = (outsAt0 V c 23 lt_last).2.2.1 := by
  have e : ∀ (n : ℕ) (h : n < cfg0.N), n = 23 → outsAt0 V c n h = outsAt0 V c 23 lt_last := by rintro n h rfl; rfl
  refine (dat0 V c).arrAt_eq_of_covers 8 _ (by decide +kernel) fun t hf y => ?_
  have ht := (flush0_8 t).mp hf
  have ht' := lt24 t
  blk_simp
  rw [after0_8, e t.val t.isLt (by omega)]
  generalize outsAt0 V c 23 lt_last = o
  blk_ext [idx0 t]

/-- The running sums after the pass are the last point's. -/
theorem sum_final : (dat0 V c).arrAt 9 cfg0.N = (outsAt0 V c 23 lt_last).2.2.2 := by
  have e : ∀ (n : ℕ) (h : n < cfg0.N), n = 23 → outsAt0 V c n h = outsAt0 V c 23 lt_last := by rintro n h rfl; rfl
  refine (dat0 V c).arrAt_eq_of_covers 9 _ (by decide +kernel) fun t hf y => ?_
  have ht := (flush0_9 t).mp hf
  have ht' := lt24 t
  blk_simp
  rw [after0_9, e t.val t.isLt (by omega)]
  generalize outsAt0 V c 23 lt_last = o
  blk_ext [idx0 t]

/-- After the pass, every lane's pair stands for the lane's total weight. -/
theorem good_final (hz : ∀ j, scoresAt V c j ≠ (⊤ : EReal)) (r : Fin 1792) (l : Fin 128) :
    Good ((dat0 V c).arrAt 8 cfg0.N (ix2 r l)) ((dat0 V c).arrAt 9 cfg0.N (ix2 r l)) (laneE (scoresAt V c) r l) := by
  have g := inv V c hz r l 23 lt_last
  rw [max_final, sum_final]
  have e : laneE (scoresAt V c) r l = ∑ i ∈ Finset.range (23 + 1), laneWn (scoresAt V c) r l i := by
    rw [laneE, Finset.sum_range]
    refine Finset.sum_congr rfl fun i _ => ?_
    rw [laneWn, dif_pos i.isLt]
  rw [e]
  exact g

end Cert.KernelIdeal.Value

end

end
-- ==== Proof.TargetPure.lean ====
/-
The target kernel's arithmetic read at one token: the target score, the merged log-sum-exp, the target's gradient
factor and the loss.
-/
module

public import proofs.«01_k».proof.Proof.LogSumExp
public import proofs.«01_k».proof.Proof.Dequant

@[expose] public section

set_option maxRecDepth 16384

noncomputable section

open Idealize.ShloMosaic Idealize.ShloMosaic.TcCoe Idealize.SL.Sem

namespace Cert.KernelIdeal.Value

open Cert.KernelIdeal Cert.KernelIdeal.Gen

open Cert.Lse

/-- The merge of the lanes' running pairs with the target's score. -/
def mergeLse (m s : Fin 128 → EReal) (zt : EReal) : EReal :=
  max (Finset.univ.fold max ⊥ m) zt
    + Ideal.log ((∑ l, s l * Ideal.exp (m l - max (Finset.univ.fold max ⊥ m) zt))
      + Ideal.exp (zt - max (Finset.univ.fold max ⊥ m) zt))

/-- The merge depends on the pairs and the score alone. -/
theorem mergeLse_congr {m m' s s' : Fin 128 → EReal} {z z' : EReal} (hm : ∀ l, m l = m' l) (hs : ∀ l, s l = s' l) (hz : z = z') :
    mergeLse m s z = mergeLse m' s' z' := by
  obtain rfl : m = m' := funext hm
  obtain rfl : s = s' := funext hs
  rw [hz]

/-- The target score of a token: its product with the target's row minus the target's log-probability. -/
theorem zt_at (rows x : FVec Ideal S256x3584 .bf16) (lq : FVec Ideal S256x1 .f32) (r : Fin 256) (u : Fin 1) :
    k1_pay2 (F := Ideal) rows x lq (ix2 r u) = (∑ k : Fin 3584, x (ix2 r k) * rows (ix2 r k)) - lq (ix2 r u) := by
  pointwise [k1_pay2]

/-- The log-sum-exp of a token. -/
theorem lse_at (rows x : FVec Ideal S256x3584 .bf16) (lq : FVec Ideal S256x1 .f32) (m s : FVec Ideal S256x128 .f32)
    (r : Fin 256) (u : Fin 1) :
    k1_pay3 (F := Ideal) rows x lq m s (ix2 r u)
      = mergeLse (fun l => m (ix2 r l)) (fun l => s (ix2 r l)) (k1_pay2 (F := Ideal) rows x lq (ix2 r u)) := by
  have hu : u = 0 := Subsingleton.elim _ _
  subst hu
  pointwise [k1_pay3, mergeLse]
  rw [ofBits_bot]

/-- The target's gradient factor of a token. -/
theorem dzt_at (rows x : FVec Ideal S256x3584 .bf16) (lq : FVec Ideal S256x1 .f32) (m s : FVec Ideal S256x128 .f32)
    (g : FVec Ideal S256x1 .f32) (r : Fin 256) (u : Fin 1) :
    k1_pay4 (F := Ideal) rows x lq m s g (ix2 r u)
      = g (ix2 r u) * (Ideal.exp (k1_pay2 (F := Ideal) rows x lq (ix2 r u) - k1_pay3 (F := Ideal) rows x lq m s (ix2 r u)) - 1) := by
  pointwise [k1_pay4]

/-- The loss of a token. -/
theorem loss_at (rows x : FVec Ideal S256x3584 .bf16) (lq : FVec Ideal S256x1 .f32) (m s : FVec Ideal S256x128 .f32)
    (r : Fin 256) (u : Fin 1) :
    k1_pay5 (F := Ideal) rows x lq m s (ix2 r u)
      = k1_pay3 (F := Ideal) rows x lq m s (ix2 r u) - k1_pay2 (F := Ideal) rows x lq (ix2 r u) := by
  pointwise [k1_pay5]

end Cert.KernelIdeal.Value

end

end
-- ==== Proof.Target.lean ====
/-
The target kernel over its grid of token tiles: what its four output arrays hold at the end.
-/
module

public import proofs.«01_k».proof.Proof.Gen.KernelIdeal.Frame
public import Idealize.ShloMosaic.Lib.Pipeline.ValueKit
public import proofs.«01_k».proof.Proof.TargetPure

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

open Cert.Lse

variable (V : (c : Dev nD) → (b : Ref sig .tc) → Buf (Elt Ideal) ((c : Thread nD τ).loc b)) (c : Dev nD)

/-- The block indices of the target kernel's windows: every array moves with the tile of tokens. -/
theorem idx1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] ∧ win1_8.index t = ![t.val, 0] ∧ win1_9.index t = ![t.val, 0] ∧ win1_10.index t = ![t.val, 0] :=
  (by decide +kernel : ∀ t : Fin grid1.N, _)

/-- The dequantized rows of the tokens' targets. -/
def rowsTOf (codes : IVec S1792x3584 8) (s : FVec Ideal S1792x128 .bf16) : FVec Ideal S1792x3584 .bf16 :=
  fun j => FloatOps.sitofp (F := Ideal) .f32 (codes j)
    * s (ix2 (j 0) ⟨(j 1 : ℕ) / 32, by have h : (j 1 : ℕ) < 3584 := (j 1).isLt; omega⟩)

/-- The target scores. -/
def ztOf (x rows : FVec Ideal S1792x3584 .bf16) (lq : FVec Ideal S1792x1 .f32) : FVec Ideal S1792x1 .f32 :=
  fun j => (∑ k : Fin 3584, x (ix2 (j 0) k) * rows (ix2 (j 0) k)) - lq (ix2 (j 0) (j 1))

/-- The merged log-sum-exps. -/
def lseOf (m s : FVec Ideal S1792x128 .f32) (zt : FVec Ideal S1792x1 .f32) : FVec Ideal S1792x1 .f32 :=
  fun j => mergeLse (fun l => m (ix2 (j 0) l)) (fun l => s (ix2 (j 0) l)) (zt (ix2 (j 0) (j 1)))

/-- The target scores of the pass whose arrays the region finds in `V`. -/
abbrev ztAt : FVec Ideal S1792x1 .f32 := ztOf (V c main_v0) (rowsTOf (V c main_v18) (V c main_v43)) (V c main_v51)

/-- The log-sum-exps of the pass whose arrays the region finds in `V`. -/
abbrev lseAt : FVec Ideal S1792x1 .f32 := lseOf (V c main_v36_2) (V c main_v36_3) (ztAt V c)

/-- The dequantized tile of a point is the point's part of the rows. -/
theorem rowsT_blk (t : Fin cfg1.N) (y : S256x3584.Idx) :
    k1_pay1 (F := Ideal) (iblk1 V c 1 t) (iblk1 V c 2 t) y
      = rowsTOf (V c main_v18) (V c main_v43) (((cfg1.win 7).blk t).view.emb y) := by
  idx_vars y
  refine (dequant1_at _ _ _ _).trans ?_
  unfold rowsTOf
  blk_point [iblk1, idx1 t]

/-- The target rows after the pass. -/
theorem rowsT_final : (dat1 V c).arrAt 7 cfg1.N = rowsTOf (V c main_v18) (V c main_v43) := by
  refine (dat1 V c).arrAt_eq_of_covers 7 _ (by decide +kernel) fun t hf y => ?_
  blk_simp
  rw [after1_7]; frame_out
  exact rowsT_blk V c t y

/-- A tile's target scores over the blocks it loads. -/
abbrev ztTile (t : Fin cfg1.N) : FVec Ideal S256x1 .f32 :=
  k1_pay2 (F := Ideal) (k1_pay1 (F := Ideal) (iblk1 V c 1 t) (iblk1 V c 2 t)) (iblk1 V c 0 t) (iblk1 V c 3 t)

/-- A tile's log-sum-exps over the blocks it loads. -/
abbrev lseTile (t : Fin cfg1.N) : FVec Ideal S256x1 .f32 :=
  k1_pay3 (F := Ideal) (k1_pay1 (F := Ideal) (iblk1 V c 1 t) (iblk1 V c 2 t)) (iblk1 V c 0 t) (iblk1 V c 3 t) (iblk1 V c 5 t) (iblk1 V c 6 t)

/-- The grid has 7 points. -/
theorem lt7 (t : Fin cfg1.N) : t.val < 7 := lt_of_lt_of_eq t.isLt (show cfg1.N = 7 from N_1)

/-- A tile's target score is the token's. -/
theorem ztTile_at (t : Fin cfg1.N) (r : Fin 256) (u : Fin 1) :
    ztTile V c t (ix2 r u) = ztAt V c (ix2 ⟨t.val * 256 + r.val, by have := lt7 t; omega⟩ u) := by
  refine (zt_at _ _ _ r u).trans ?_
  simp only [dequant1_at]
  unfold ztAt ztOf rowsTOf
  have ht := lt7 t
  blk_point [iblk1, idx1 t]

/-- A tile's maxima are the tokens'. -/
theorem mTile_at (t : Fin cfg1.N) (r : Fin 256) (l : Fin 128) :
    (show FVec Ideal S256x128 .f32 from iblk1 V c 5 t) (ix2 r l)
      = (show FVec Ideal S1792x128 .f32 from V c main_v36_2) (ix2 ⟨t.val * 256 + r.val, by have := lt7 t; omega⟩ l) := by
  have ht := lt7 t
  blk_point [iblk1, idx1 t]

/-- A tile's sums are the tokens'. -/
theorem sTile_at (t : Fin cfg1.N) (r : Fin 256) (l : Fin 128) :
    (show FVec Ideal S256x128 .f32 from iblk1 V c 6 t) (ix2 r l)
      = (show FVec Ideal S1792x128 .f32 from V c main_v36_3) (ix2 ⟨t.val * 256 + r.val, by have := lt7 t; omega⟩ l) := by
  have ht := lt7 t
  blk_point [iblk1, idx1 t]

/-- A tile's log-sum-exp is the token's. -/
theorem lseTile_at (t : Fin cfg1.N) (r : Fin 256) (u : Fin 1) :
    lseTile V c t (ix2 r u) = lseAt V c (ix2 ⟨t.val * 256 + r.val, by have := lt7 t; omega⟩ u) :=
  (lse_at _ _ _ _ _ r u).trans (mergeLse_congr (mTile_at V c t r) (sTile_at V c t r) (ztTile_at V c t r u))

/-- The rows a point stores are the dequantized ones. -/
theorem pay6_eq (x0 : Vec Ideal S256x3584 .bf16) (x1 : Vec Ideal S256x3584 .i8) (x2 : Vec Ideal S256x128 .bf16)
    (x3 x4 : Vec Ideal S256x1 .f32) (x5 x6 : Vec Ideal S256x128 .f32) :
    k1_pay6 (F := Ideal) x0 x1 x2 x3 x4 x5 x6 = k1_pay1 (F := Ideal) x1 x2 := by
  unfold k1_pay6
  frame_out

/-- The log-sum-exp array after the pass. -/
theorem lse_final : (dat1 V c).arrAt 8 cfg1.N = lseAt V c := by
  refine (dat1 V c).arrAt_eq_of_covers 8 _ (by decide +kernel) fun t hf y => ?_
  blk_simp
  rw [after1_8]; frame_out; rw [pay6_eq]
  idx_vars y
  refine (lseTile_at V c t y0 y1).trans ?_
  have ht := lt7 t
  generalize lseAt V c = Z
  blk_ext [idx1 t]

/-- The targets' gradient factors after the pass. -/
theorem dzt_final : (dat1 V c).arrAt 9 cfg1.N
    = fun j : S1792x1.Idx => (show FVec Ideal S1792x1 .f32 from V c main_v2) j * (Ideal.exp (ztAt V c j - lseAt V c j) - 1) := by
  refine (dat1 V c).arrAt_eq_of_covers 9 _ (by decide +kernel) fun t hf y => ?_
  blk_simp
  rw [after1_9]; frame_out; rw [pay6_eq]
  idx_vars y
  refine (dzt_at _ _ _ _ _ _ y0 y1).trans ?_
  have ht := lt7 t
  have e1 := ztTile_at V c t y0 y1
  have e2 := lseTile_at V c t y0 y1
  unfold ztTile at e1
  unfold lseTile at e2
  rw [e1, e2]
  generalize lseAt V c = Z
  generalize ztAt V c = Z'
  blk_point [iblk1, idx1 t]

/-- The losses after the pass. -/
theorem loss_final : (dat1 V c).arrAt 10 cfg1.N = fun j : S1792x1.Idx => lseAt V c j - ztAt V c j := by
  refine (dat1 V c).arrAt_eq_of_covers 10 _ (by decide +kernel) fun t hf y => ?_
  blk_simp
  rw [after1_10]; frame_out; rw [pay6_eq]
  idx_vars y
  refine (loss_at _ _ _ _ _ y0 y1).trans ?_
  have ht := lt7 t
  have e1 := ztTile_at V c t y0 y1
  have e2 := lseTile_at V c t y0 y1
  unfold ztTile at e1
  unfold lseTile at e2
  rw [e1, e2]
  generalize lseAt V c = Z
  generalize ztAt V c = Z'
  blk_point [idx1 t]

end Cert.KernelIdeal.Value

end

end
-- ==== Proof.Pass2.lean ====
/-
The second pass over its grid of column tiles: the gradients of the sampled rows and of the tokens.
-/
module

public import proofs.«01_k».proof.Proof.Gen.KernelIdeal.Frame
public import Idealize.ShloMosaic.Lib.Pipeline.ValueKit
public import proofs.«01_k».proof.Proof.LogSumExp
public import proofs.«01_k».proof.Proof.Dequant

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

open Cert.Lse

variable (V : (c : Dev nD) → (b : Ref sig .tc) → Buf (Elt Ideal) ((c : Thread nD τ).loc b)) (c : Dev nD)

/-- The block indices of the second pass's windows. -/
theorem idx2 : ∀ t : Fin cfg2.N, win2_0.index t = ![0, 0] ∧ win2_1.index t = ![t.val, 0] ∧ win2_2.index t = ![t.val / 2, 0, t.val % 2]
    ∧ win2_3.index t = ![0, 0] ∧ win2_4.index t = ![0, 0] ∧ win2_5.index t = ![0, 0] ∧ win2_6.index t = ![t.val, 0] :=
  (by decide +kernel : ∀ t : Fin grid2.N, _)

/-- The gradient of the loss with respect to the score of token `r` and column `n`. -/
def dzOf (g : FVec Ideal S1792x1 .f32) (z : FVec Ideal S24x1792x512 .f32) (lse : FVec Ideal S1792x1 .f32) (r : Fin 1792)
    (n : Fin 12288) : EReal :=
  g (ix2 r 0) * Ideal.exp (z (ix3 ⟨n.val / 512, by omega⟩ r ⟨n.val % 512, by omega⟩) - lse (ix2 r 0))

/-- A point's tile of score gradients at one element. -/
theorem dz_at (g : FVec Ideal S1792x1 .f32) (z : FVec Ideal S1x1792x256 .f32) (lse : FVec Ideal S1792x1 .f32) (r : Fin 1792)
    (n : Fin 256) :
    k2_pay2 (F := Ideal) g z lse (ix2 r n) = g (ix2 r 0) * Ideal.exp (z (ix3 0 r n) - lse (ix2 r 0)) := by
  pointwise [k2_pay2]

/-- The zero fill of the token gradients. -/
theorem dh_zero (j : S1792x3584.Idx) : k2_pay1 (F := Ideal) j = (0 : EReal) := by pointwise [k2_pay1]

/-- A point adds its columns' part to the token gradients. -/
theorem dh_at (g : FVec Ideal S1792x1 .f32) (z : FVec Ideal S1x1792x256 .f32) (lse : FVec Ideal S1792x1 .f32)
    (acc : FVec Ideal S1792x3584 .f32) (rows : FVec Ideal S256x3584 .bf16) (j : S1792x3584.Idx) :
    k2_pay3 (F := Ideal) g z lse acc rows j
      = acc j + ∑ k : Fin 256, g (ix2 (j 0) 0) * Ideal.exp (z (ix3 0 (j 0) k) - lse (ix2 (j 0) 0)) * rows (ix2 k (j 1)) := by
  pointwise [k2_pay3, k2_pay2]

/-- A point's tile of row gradients at one element. -/
theorem dw_at (g : FVec Ideal S1792x1 .f32) (z : FVec Ideal S1x1792x256 .f32) (lse : FVec Ideal S1792x1 .f32)
    (x : FVec Ideal S1792x3584 .bf16) (n : Fin 256) (d : Fin 3584) :
    k2_pay4 (F := Ideal) g z lse x (ix2 n d)
      = ∑ r : Fin 1792, g (ix2 r 0) * Ideal.exp (z (ix3 0 r n) - lse (ix2 r 0)) * x (ix2 r d) := by
  pointwise [k2_pay4, k2_pay2]

/-- The gradients of the sampled rows. -/
def dwOf (g : FVec Ideal S1792x1 .f32) (z : FVec Ideal S24x1792x512 .f32) (lse : FVec Ideal S1792x1 .f32)
    (x : FVec Ideal S1792x3584 .bf16) : FVec Ideal S12288x3584 .f32 :=
  fun j => ∑ r : Fin 1792, dzOf g z lse r (j 0) * x (ix2 r (j 1))

/-- The gradients of the tokens, through the sampled columns. -/
def dhOf (g : FVec Ideal S1792x1 .f32) (z : FVec Ideal S24x1792x512 .f32) (lse : FVec Ideal S1792x1 .f32)
    (rows : FVec Ideal S12288x3584 .bf16) : FVec Ideal S1792x3584 .f32 :=
  fun j => ∑ n : Fin 12288, dzOf g z lse (j 0) n * rows (ix2 n (j 1))

/-- The grid has 48 points. -/
theorem lt48 (t : Fin cfg2.N) : t.val < 48 := lt_of_lt_of_eq t.isLt (show cfg2.N = 48 from N_2)

/-- A point's tile of row gradients is the point's part of them. -/
theorem dw_blk (t : Fin cfg2.N) (y : S256x3584.Idx) :
    k2_pay4 (F := Ideal) (iblk2 V c 4 t) (iblk2 V c 2 t) (iblk2 V c 3 t) (iblk2 V c 0 t) y
      = dwOf (V c main_v2) (V c main_v36_0) (V c main_v52_1) (V c main_v0) (((cfg2.win 6).blk t).view.emb y) := by
  idx_vars y
  refine (dw_at _ _ _ _ y0 y1).trans ?_
  unfold dwOf dzOf
  have ht := lt48 t
  blk_point [iblk2, idx2 t]

/-- The row gradients after the pass. -/
theorem dw_final : (dat2 V c).arrAt 6 cfg2.N = dwOf (V c main_v2) (V c main_v36_0) (V c main_v52_1) (V c main_v0) := by
  refine (dat2 V c).arrAt_eq_of_covers 6 _ (by decide +kernel) fun t hf y => ?_
  blk_simp
  rw [after2_6]
  by_cases h : t.val % 48 = 0
  · rw [outsAt2_A V c t h]; frame_out
    exact dw_blk V c t y
  · rw [outsAt2_B V c t h]; frame_out
    exact dw_blk V c t y

/-- The token gradients after the pass. -/
theorem dh_final : (dat2 V c).arrAt 5 cfg2.N = dhOf (V c main_v2) (V c main_v36_0) (V c main_v52_1) (V c main_v36_1) := by
  refine (dat2 V c).arrAt_eq_of_covers 5 _ (by decide +kernel) fun t hf y => ?_
  blk_simp
  rw [after2_5, Pipeline.eq_sum_fin_of_reset_step_apply_of_flush (fun n h => (outsAt2 V c n h).1) 48 (fun _ => 0) _
    (fun t h j => by rw [outsAt2_A V c t h]; frame_out; rw [dh_at, dh_zero])
    (fun t h j => by rw [outsAt2_B V c t h]; frame_out; rw [dh_at])
    t ((flush2_5 t).mp hf) _, zero_add]
  idx_vars y
  unfold dhOf dzOf
  refine Fin.sum_mul_add_congr fun s k hl => ?_
  have ht := lt48 t
  have ht' := (flush2_5 t).mp hf
  blk_point [iblk2, idx2 t, idx2 ⟨_, Pipeline.run_point_lt_of_flush t ((flush2_5 t).mp hf) s⟩]

end Cert.KernelIdeal.Value

end

end
-- ==== Proof.KernelVals.lean ====
/-
The kernel's four results as functions of its arguments: the values of the three passes and of
the host operations between them, put together.
-/
module

public import proofs.«01_k».proof.Proof.HostVals
public import proofs.«01_k».proof.Proof.Pass1
public import proofs.«01_k».proof.Proof.Target
public import proofs.«01_k».proof.Proof.Pass2

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- The dequantized rows of the sampled columns. -/
def kRows (codes : IVec S32768x3584 8) (sc : FVec Ideal S32768x112 .f32) (ids : IVec S12288 32) :
    FVec Ideal S12288x3584 .bf16 :=
  rowsOf (Host.gather gather_S32768x3584_S12288x1_S12288x3584_1_0_n_n_0_1_13584 codes (idsIdx ids))
    (Host.gather gather_S32768x128_S12288x1_S12288x128_1_0_n_n_0_1_1128 (padS sc) (idsIdx ids))

/-- The dequantized rows of the tokens' targets. -/
def kRowsT (codes : IVec S32768x3584 8) (sc : FVec Ideal S32768x112 .f32) (tgt : IVec S1792 32) :
    FVec Ideal S1792x3584 .bf16 :=
  rowsTOf (Host.gather gather_S32768x3584_S1792x1_S1792x3584_1_0_n_n_0_1_13584 codes (tgtIdx tgt))
    (Host.gather gather_S32768x128_S1792x1_S1792x128_1_0_n_n_0_1_1128 (padS sc) (tgtIdx tgt))

/-- The corrected scores of every token against every sampled column, an accidental hit masked. -/
def kScores (x : FVec Ideal S1792x3584 .bf16) (codes : IVec S32768x3584 8) (sc : FVec Ideal S32768x112 .f32)
    (lq : FVec Ideal S32768 .f32) (ids : IVec S12288 32) (tgt : IVec S1792 32) : FVec Ideal S24x1792x512 .f32 :=
  scoresOf x (kRows codes sc ids)
    (shapeCast S24x1x512 (Host.gather gather_S32768_S12288x1_S12288_n_0_n_n_0_1_1 lq (idsIdx ids)) shapeCasts_S12288_S24x1x512)
    (shapeCast S24x1x512 ids shapeCasts_S12288_S24x1x512)
    (shapeCast S1792x1 tgt shapeCasts_S1792_S1792x1)

/-- The corrected score of every token's own target. -/
def kZt (x : FVec Ideal S1792x3584 .bf16) (codes : IVec S32768x3584 8) (sc : FVec Ideal S32768x112 .f32)
    (lq : FVec Ideal S32768 .f32) (tgt : IVec S1792 32) : FVec Ideal S1792x1 .f32 :=
  ztOf x (kRowsT codes sc tgt)
    (shapeCast S1792x1 (Host.gather gather_S32768_S1792x1_S1792_n_0_n_n_0_1_1 lq (tgtIdx tgt)) shapeCasts_S1792_S1792x1)

/-- The gradient of the loss by the target's score. -/
def kDzt (g zt lse : FVec Ideal S1792x1 .f32) : FVec Ideal S1792x1 .f32 :=
  fun j => g j * (Ideal.exp (zt j - lse j) - 1)

variable (m : (ℓ : Loc nD τ sig) → Buf (Elt Ideal) ℓ) (ρ : Dev nD → PrngReg) (c : Dev nD)

/-- The scores of the run. -/
abbrev mZ : FVec Ideal S24x1792x512 .f32 := kScores (hOf (m ((c : Thread nD τ).loc main_arg0))) (m ((c : Thread nD τ).loc main_arg1)) (m ((c : Thread nD τ).loc main_arg2)) (m ((c : Thread nD τ).loc main_arg3)) (m ((c : Thread nD τ).loc main_arg4)) (tgtOf (m ((c : Thread nD τ).loc main_arg5)))

/-- The target scores of the run. -/
abbrev mZt : FVec Ideal S1792x1 .f32 := kZt (hOf (m ((c : Thread nD τ).loc main_arg0))) (m ((c : Thread nD τ).loc main_arg1)) (m ((c : Thread nD τ).loc main_arg2)) (m ((c : Thread nD τ).loc main_arg3)) (tgtOf (m ((c : Thread nD τ).loc main_arg5)))

/-- The lane maxima the first pass leaves. -/
abbrev mMax : FVec Ideal S1792x128 .f32 := (dat0 (V3 m ρ) c).arrAt 8 cfg0.N

/-- The lane sums the first pass leaves. -/
abbrev mSum : FVec Ideal S1792x128 .f32 := (dat0 (V3 m ρ) c).arrAt 9 cfg0.N

/-- The log-sum-exps of the run. -/
abbrev mLse : FVec Ideal S1792x1 .f32 := lseOf (mMax m ρ c) (mSum m ρ c) (mZt m c)

/-- The first pass's scores are those of the arguments. -/
theorem scoresAt_V3 : scoresAt (V3 m ρ) c = mZ m c := by
  unfold scoresAt mZ kScores kRows
  rw [show V3 m ρ c main_v0 = _ from W3_v0 m ρ c, show V3 m ρ c main_v11 = _ from W3_v11 m ρ c,
    show V3 m ρ c main_v25 = _ from W3_v25 m ρ c, show V3 m ρ c main_v33 = _ from W3_v33 m ρ c,
    show V3 m ρ c main_v34 = _ from W3_v34 m ρ c, show V3 m ρ c main_v35 = _ from W3_v35 m ρ c]

/-- The score buffer after the first pass. -/
theorem W4_v36_0 : W4 m ρ c (Proc.devRef .tc main_v36_0) = mZ m c :=
  (W4_arr m ρ c 6).trans ((scores_final (V3 m ρ) c).trans (scoresAt_V3 m ρ c))

/-- The row buffer after the first pass. -/
theorem W4_v36_1 : W4 m ρ c (Proc.devRef .tc main_v36_1) = kRows (m ((c : Thread nD τ).loc main_arg1)) (m ((c : Thread nD τ).loc main_arg2)) (m ((c : Thread nD τ).loc main_arg4)) := by
  refine (W4_arr m ρ c 7).trans ((rows_final (V3 m ρ) c).trans ?_)
  unfold kRows
  rw [show V3 m ρ c main_v11 = _ from W3_v11 m ρ c, show V3 m ρ c main_v25 = _ from W3_v25 m ρ c]

/-- The hidden states at the target pass. -/
theorem V5_v0 : V5 m ρ c main_v0 = hOf (m ((c : Thread nD τ).loc main_arg0)) :=
  (W5_of m ρ c _ (by decide)).trans ((W4_of m ρ c main_v0 (by decide)).trans (W3_v0 m ρ c))

/-- The incoming gradients at the target pass. -/
theorem V5_v2 : V5 m ρ c main_v2 = gOf (m ((c : Thread nD τ).loc main_arg6)) :=
  (W5_of m ρ c _ (by decide)).trans ((W4_of m ρ c main_v2 (by decide)).trans (W3_v2 m ρ c))

/-- The target rows' codes at the target pass. -/
theorem V5_v18 : V5 m ρ c main_v18
    = Host.gather gather_S32768x3584_S1792x1_S1792x3584_1_0_n_n_0_1_13584 (m ((c : Thread nD τ).loc main_arg1)) (tgtIdx (tgtOf (m ((c : Thread nD τ).loc main_arg5)))) :=
  (W5_of m ρ c _ (by decide)).trans ((W4_of m ρ c main_v18 (by decide)).trans (W3_v18 m ρ c))

/-- The flat targets after the first pass. -/
theorem W4_v1 : W4 m ρ c (Proc.devRef .tc main_v1) = tgtOf (m ((c : Thread nD τ).loc main_arg5)) :=
  (W4_of m ρ c main_v1 (by decide)).trans (W3_v1 m ρ c)

/-- The padded scales after the first pass. -/
theorem W4_v4 : W4 m ρ c (Proc.devRef .tc main_v4) = padS (m ((c : Thread nD τ).loc main_arg2)) :=
  (W4_of m ρ c main_v4 (by decide)).trans (W3_v4 m ρ c)

/-- The target rows' scales at the target pass. -/
theorem V5_v43 : V5 m ρ c main_v43
    = Host.gather gather_S32768x128_S1792x1_S1792x128_1_0_n_n_0_1_1128 (padS (m ((c : Thread nD τ).loc main_arg2))) (tgtIdx (tgtOf (m ((c : Thread nD τ).loc main_arg5)))) := by
  rw [← W4_v4 m ρ c, ← W4_v1 m ρ c]
  show W5 m ρ c (Proc.devRef .tc main_v43) = _
  unfold W5
  after_results
  rfl

/-- The targets' log probabilities at the target pass. -/
theorem V5_v51 : V5 m ρ c main_v51
    = shapeCast S1792x1 (Host.gather gather_S32768_S1792x1_S1792_n_0_n_n_0_1_1 (m ((c : Thread nD τ).loc main_arg3)) (tgtIdx (tgtOf (m ((c : Thread nD τ).loc main_arg5)))))
      shapeCasts_S1792_S1792x1 := by
  rw [← W4_v1 m ρ c, ← W4_args m ρ c main_arg3 (by decide)]
  show W5 m ρ c (Proc.devRef .tc main_v51) = _
  unfold W5
  after_results
  rfl

/-- The lane maxima at the target pass. -/
theorem V5_v36_2 : V5 m ρ c main_v36_2 = mMax m ρ c :=
  (W5_of m ρ c _ (by decide)).trans (W4_arr m ρ c 8)

/-- The lane sums at the target pass. -/
theorem V5_v36_3 : V5 m ρ c main_v36_3 = mSum m ρ c :=
  (W5_of m ρ c _ (by decide)).trans (W4_arr m ρ c 9)

/-- The target pass's scores are those of the arguments. -/
theorem ztAt_V5 : ztAt (V5 m ρ) c = mZt m c := by
  unfold ztAt mZt kZt kRowsT
  rw [V5_v0 m ρ c, V5_v18 m ρ c, V5_v43 m ρ c, V5_v51 m ρ c]

/-- The target pass's log-sum-exps. -/
theorem lseAt_V5 : lseAt (V5 m ρ) c = mLse m ρ c := by
  unfold lseAt mLse
  rw [V5_v36_2 m ρ c, V5_v36_3 m ρ c, ztAt_V5 m ρ c]

/-- The target rows after the target pass. -/
theorem W6_v52_0 : W6 m ρ c (Proc.devRef .tc main_v52_0) = kRowsT (m ((c : Thread nD τ).loc main_arg1)) (m ((c : Thread nD τ).loc main_arg2)) (tgtOf (m ((c : Thread nD τ).loc main_arg5))) := by
  refine (W6_arr m ρ c 7).trans ((rowsT_final (V5 m ρ) c).trans ?_)
  unfold kRowsT
  rw [V5_v18 m ρ c, V5_v43 m ρ c]

/-- The log-sum-exps after the target pass. -/
theorem W6_v52_1 : W6 m ρ c (Proc.devRef .tc main_v52_1) = mLse m ρ c :=
  (W6_arr m ρ c 8).trans ((lse_final (V5 m ρ) c).trans (lseAt_V5 m ρ c))

/-- The gradients by the target scores after the target pass. -/
theorem W6_v52_2 : W6 m ρ c (Proc.devRef .tc main_v52_2) = kDzt (gOf (m ((c : Thread nD τ).loc main_arg6))) (mZt m c) (mLse m ρ c) := by
  refine (W6_arr m ρ c 9).trans ((dzt_final (V5 m ρ) c).trans ?_)
  rw [V5_v2 m ρ c, ztAt_V5 m ρ c, lseAt_V5 m ρ c]
  rfl

/-- The losses after the target pass. -/
theorem W6_v52_3 : W6 m ρ c (Proc.devRef .tc main_v52_3)
    = (fun j => mLse m ρ c j - mZt m c j : FVec Ideal S1792x1 .f32) := by
  refine (W6_arr m ρ c 10).trans ((loss_final (V5 m ρ) c).trans ?_)
  rw [ztAt_V5 m ρ c, lseAt_V5 m ρ c]

/-- The hidden states at the second pass. -/
theorem V6_v0 : V6 m ρ c main_v0 = hOf (m ((c : Thread nD τ).loc main_arg0)) :=
  (W6_of m ρ c main_v0 (by decide)).trans (V5_v0 m ρ c)

/-- The incoming gradients at the second pass. -/
theorem V6_v2 : V6 m ρ c main_v2 = gOf (m ((c : Thread nD τ).loc main_arg6)) :=
  (W6_of m ρ c main_v2 (by decide)).trans (V5_v2 m ρ c)

/-- The scores at the second pass. -/
theorem V6_v36_0 : V6 m ρ c main_v36_0 = mZ m c :=
  (W6_of m ρ c main_v36_0 (by decide)).trans ((W5_of m ρ c _ (by decide)).trans (W4_v36_0 m ρ c))

/-- The sampled rows at the second pass. -/
theorem V6_v36_1 : V6 m ρ c main_v36_1 = kRows (m ((c : Thread nD τ).loc main_arg1)) (m ((c : Thread nD τ).loc main_arg2)) (m ((c : Thread nD τ).loc main_arg4)) :=
  (W6_of m ρ c main_v36_1 (by decide)).trans ((W5_of m ρ c _ (by decide)).trans (W4_v36_1 m ρ c))

/-- The sampled rows' gradient after the second pass. -/
theorem W7_v53_1 : W7 m ρ c (Proc.devRef .tc main_v53_1) = dwOf (gOf (m ((c : Thread nD τ).loc main_arg6))) (mZ m c) (mLse m ρ c) (hOf (m ((c : Thread nD τ).loc main_arg0))) := by
  refine (W7_arr m ρ c 6).trans ((dw_final (V6 m ρ) c).trans ?_)
  rw [V6_v0 m ρ c, V6_v2 m ρ c, V6_v36_0 m ρ c, show V6 m ρ c main_v52_1 = _ from W6_v52_1 m ρ c]

/-- The hidden states' gradient through the sampled rows after the second pass. -/
theorem W7_v53_0 : W7 m ρ c (Proc.devRef .tc main_v53_0)
    = dhOf (gOf (m ((c : Thread nD τ).loc main_arg6))) (mZ m c) (mLse m ρ c) (kRows (m ((c : Thread nD τ).loc main_arg1)) (m ((c : Thread nD τ).loc main_arg2)) (m ((c : Thread nD τ).loc main_arg4))) := by
  refine (W7_arr m ρ c 5).trans ((dh_final (V6 m ρ) c).trans ?_)
  rw [V6_v2 m ρ c, V6_v36_0 m ρ c, V6_v36_1 m ρ c, show V6 m ρ c main_v52_1 = _ from W6_v52_1 m ρ c]

/-- The target rows at the end. -/
theorem W7_v52_0 : W7 m ρ c (Proc.devRef .tc main_v52_0) = kRowsT (m ((c : Thread nD τ).loc main_arg1)) (m ((c : Thread nD τ).loc main_arg2)) (tgtOf (m ((c : Thread nD τ).loc main_arg5))) :=
  (W7_of m ρ c main_v52_0 (by decide)).trans (W6_v52_0 m ρ c)

/-- The gradients by the target scores at the end. -/
theorem W7_v52_2 : W7 m ρ c (Proc.devRef .tc main_v52_2) = kDzt (gOf (m ((c : Thread nD τ).loc main_arg6))) (mZt m c) (mLse m ρ c) :=
  (W7_of m ρ c main_v52_2 (by decide)).trans (W6_v52_2 m ρ c)

/-- The losses at the end. -/
theorem W7_v52_3 : W7 m ρ c (Proc.devRef .tc main_v52_3)
    = (fun j => mLse m ρ c j - mZt m c j : FVec Ideal S1792x1 .f32) :=
  (W7_of m ρ c main_v52_3 (by decide)).trans (W6_v52_3 m ρ c)

/-- The hidden states at the end. -/
theorem W7_v0 : W7 m ρ c (Proc.devRef .tc main_v0) = hOf (m ((c : Thread nD τ).loc main_arg0)) :=
  (W7_of m ρ c main_v0 (by decide)).trans (V6_v0 m ρ c)

/-- The flat targets at the end. -/
theorem W7_v1 : W7 m ρ c (Proc.devRef .tc main_v1) = tgtOf (m ((c : Thread nD τ).loc main_arg5)) :=
  (W7_of m ρ c main_v1 (by decide)).trans ((W6_of m ρ c main_v1 (by decide)).trans
    ((W5_of m ρ c _ (by decide)).trans (W4_v1 m ρ c)))

/-- The hidden states' gradient: the part through the sampled rows and the part through the target. -/
def kDh (dh : FVec Ideal S1792x3584 .f32) (dzt : FVec Ideal S1792x1 .f32) (rt : FVec Ideal S1792x3584 .bf16) :
    FVec Ideal S2x896x3584 .bf16 :=
  shapeCast S2x896x3584 (truncf .bf16 (addf dh (mulf (broadcastInDim S1792x3584 ![0, 1] bcast_S1792x1_S1792x3584_0_1 dzt)
    (extf .f32 rt bitsLt_bf16_f32))) bitsLt_bf16_f32) shapeCasts_S1792x3584_S2x896x3584

/-- The table's gradient: the sampled rows' gradients and the targets' added into their rows. -/
def kTab (dst : FVec Ideal S32768x3584 .f32) (ids : IVec S12288 32) (tgt : IVec S1792 32)
    (dw : FVec Ideal S12288x3584 .f32) (dzt : FVec Ideal S1792x1 .f32) (x : FVec Ideal S1792x3584 .bf16) :
    FVec Ideal S32768x3584 .f32 :=
  Host.scatterAdd scatter_S32768x3584_S1792x1_S1792x3584_1_0_0_1
    (Host.scatterAdd scatter_S32768x3584_S12288x1_S12288x3584_1_0_0_1 dst (idsIdx ids) dw) (tgtIdx tgt)
    (mulf (broadcastInDim S1792x3584 ![0, 1] bcast_S1792x1_S1792x3584_0_1 dzt) (extf .f32 x bitsLt_bf16_f32))

/-- The first result. -/
theorem W8_v59 : W8 m ρ c (Proc.devRef .tc main_v59)
    = kDh (dhOf (gOf (m ((c : Thread nD τ).loc main_arg6))) (mZ m c) (mLse m ρ c) (kRows (m ((c : Thread nD τ).loc main_arg1)) (m ((c : Thread nD τ).loc main_arg2)) (m ((c : Thread nD τ).loc main_arg4)))) (kDzt (gOf (m ((c : Thread nD τ).loc main_arg6))) (mZt m c) (mLse m ρ c))
      (kRowsT (m ((c : Thread nD τ).loc main_arg1)) (m ((c : Thread nD τ).loc main_arg2)) (tgtOf (m ((c : Thread nD τ).loc main_arg5)))) := by
  rw [← W7_v53_0 m ρ c, ← W7_v52_2 m ρ c, ← W7_v52_0 m ρ c]
  unfold W8
  after_results
  rfl

/-- The second result. -/
theorem W8_v76 : W8 m ρ c (Proc.devRef .tc main_v76)
    = kTab (m ((c : Thread nD τ).loc main_arg7)) (m ((c : Thread nD τ).loc main_arg4)) (tgtOf (m ((c : Thread nD τ).loc main_arg5))) (dwOf (gOf (m ((c : Thread nD τ).loc main_arg6))) (mZ m c) (mLse m ρ c) (hOf (m ((c : Thread nD τ).loc main_arg0))))
      (kDzt (gOf (m ((c : Thread nD τ).loc main_arg6))) (mZt m c) (mLse m ρ c)) (hOf (m ((c : Thread nD τ).loc main_arg0))) := by
  rw [← W7_v53_1 m ρ c, ← W7_v52_2 m ρ c, ← W7_v0 m ρ c, ← W7_v1 m ρ c, ← W7_args m ρ c main_arg7 (by decide),
    ← W7_args m ρ c main_arg4 (by decide)]
  unfold W8
  after_results
  rfl

/-- The third result. -/
theorem W8_v53_1 : W8 m ρ c (Proc.devRef .tc main_v53_1)
    = dwOf (gOf (m ((c : Thread nD τ).loc main_arg6))) (mZ m c) (mLse m ρ c) (hOf (m ((c : Thread nD τ).loc main_arg0))) :=
  (W8_of m ρ c _ (by decide)).trans (W7_v53_1 m ρ c)

/-- The fourth result. -/
theorem W8_v77 : W8 m ρ c (Proc.devRef .tc main_v77)
    = shapeCast S2x896 (fun j => mLse m ρ c j - mZt m c j : FVec Ideal S1792x1 .f32) shapeCasts_S1792x1_S2x896 := by
  rw [← W7_v52_3 m ρ c]
  unfold W8
  after_results
  rfl

end Cert.KernelIdeal.Value

end

end
-- ==== Proof.RefVals.lean ====
/-
The reference's intermediate values read at an index.
-/
module

public import proofs.«01_k».proof.Proof.Gen.ReferenceIdeal.Run
public import Idealize.ShloMosaic.Lib.Pointwise
public import Idealize.ShloMosaic.Lib.Pipeline.ValueKit
public import proofs.«01_k».proof.Proof.LogSumExp

@[expose] public section

set_option maxRecDepth 16384

noncomputable section

open Idealize.ShloMosaic Idealize.ShloMosaic.TcCoe Idealize.SL.Sem

namespace Cert.ReferenceIdeal.Value

open Cert.ReferenceIdeal Cert.ReferenceIdeal.Gen
open Cert.Lse

variable (V : Valuation τ sig (Elt Ideal))

/-- The hidden states. -/
def rX : FVec Ideal S1792x3584 .bf16 := res_main_v0 V

/-- The targets. -/
def rT : IVec S1792 32 := res_main_v1 V

/-- The incoming gradients. -/
def rG : FVec Ideal S1792 .f32 := res_main_v2 V

/-- The sampled rows. -/
def rRows : FVec Ideal S12288x3584 .bf16 := res_main_v25 V

/-- The targets' rows. -/
def rRowsT : FVec Ideal S1792x3584 .bf16 := res_main_v48 V

/-- The scores. -/
def rZ : FVec Ideal S1792x12288 .f32 := res_main_v65 V

/-- The targets' scores. -/
def rZt : FVec Ideal S1792 .f32 := res_main_v74 V

/-- The largest scores. -/
def rMax : FVec Ideal S1792 .f32 := res_main_v75 V

/-- The largest scores, an infinite one replaced by zero. -/
def rSafe : FVec Ideal S1792 .f32 := res_main_v79 V

/-- The log-sum-exps over the sampled columns. -/
def rLse : FVec Ideal S1792 .f32 := res_main_v86 V

/-- The log-sum-exps with the target. -/
def rTot : FVec Ideal S1792 .f32 := res_main_v96 V

/-- The gradients by the targets' scores. -/
def rDzt : FVec Ideal S1792 .f32 := res_main_v109 V

/-- The gradients by the scores. -/
def rDz : FVec Ideal S1792x12288 .bf16 := res_main_v110 V

/-- The row numbers of the sampled columns. -/
def rIdx : IVec S12288x1 32 :=
  (broadcastInDim S12288x1 ![0] bcast_S12288_S12288x1_0 (select (cmpi .slt (V (Proc.devRef .tc main_arg4)) (broadcastInDim S12288 ![] bcast_S_S12288 (constantI S_ 32 0#32))) (addi (V (Proc.devRef .tc main_arg4)) (broadcastInDim S12288 ![] bcast_S_S12288 (constantI S_ 32 32768#32))) (V (Proc.devRef .tc main_arg4))))

/-- The row numbers of the targets. -/
def rTix : IVec S1792x1 32 :=
  (broadcastInDim S1792x1 ![0] bcast_S1792_S1792x1_0 (select (cmpi .slt (res_main_v1 V) (broadcastInDim S1792 ![] bcast_S_S1792 (constantI S_ 32 0#32))) (addi (res_main_v1 V) (broadcastInDim S1792 ![] bcast_S_S1792 (constantI S_ 32 32768#32))) (res_main_v1 V)))

/-- The sampled columns' log probabilities. -/
def rLq : FVec Ideal S12288 .f32 :=
  Host.gather gather_S32768_S12288x1_S12288_n_0_n_n_0_1_1 (V (Proc.devRef .tc main_arg3)) (rIdx V)

/-- The targets' log probabilities. -/
def rLqT : FVec Ideal S1792 .f32 :=
  Host.gather gather_S32768_S1792x1_S1792_n_0_n_n_0_1_1 (V (Proc.devRef .tc main_arg3)) (rTix V)

/-- The sampled columns' codes. -/
def rCodes : IVec S12288x3584 8 :=
  Host.gather gather_S32768x3584_S12288x1_S12288x3584_1_0_n_n_0_1_13584 (V (Proc.devRef .tc main_arg1)) (rIdx V)

/-- The sampled columns' scales. -/
def rScales : FVec Ideal S12288x112 .f32 :=
  Host.gather gather_S32768x112_S12288x1_S12288x112_1_0_n_n_0_1_1112 (V (Proc.devRef .tc main_arg2)) (rIdx V)

/-- The targets' codes. -/
def rCodesT : IVec S1792x3584 8 :=
  Host.gather gather_S32768x3584_S1792x1_S1792x3584_1_0_n_n_0_1_13584 (V (Proc.devRef .tc main_arg1)) (rTix V)

/-- The targets' scales. -/
def rScalesT : FVec Ideal S1792x112 .f32 :=
  Host.gather gather_S32768x112_S1792x1_S1792x112_1_0_n_n_0_1_1112 (V (Proc.devRef .tc main_arg2)) (rTix V)

/-- A choice by an equality of words. -/
theorem select_eq' {α : Type} {w : ℕ} (a b : BitVec w) (x y : α) :
    Scalar.select (IntOp.cmpi CmpIPredicate.eq a b) x y = if a = b then x else y := by
  by_cases h : a = b
  · subst h; simp [Scalar.select, IntOp.cmpi]
  · have hb : (a == b) = false := beq_eq_false_iff_ne.2 h
    simp [Scalar.select, IntOp.cmpi, h, hb]

/-- A code read through a wider signed word is the same number. -/
theorem sitofp_ext (a : BitVec 8) : (FloatOps.sitofp (F := Ideal) .f32 (BitVec.signExtend 32 a) : EReal)
    = FloatOps.sitofp (F := Ideal) .bf16 a := by
  show (((BitVec.signExtend 32 a).toInt : ℝ) : EReal) = ((a.toInt : ℝ) : EReal)
  rw [BitVec.toInt_signExtend_of_le (by decide)]

/-- The largest entry of a row. -/
theorem rowMax_at (Z : FVec Ideal S1792x12288 .f32) (t : Fin 1792) :
    Host.reduce FloatOps.maximumf Z (constant S_ .f32 0xFF800000#32) reducesTo_S1792x12288_S1792_d1 h_S_ (ix1 t)
      = (Finset.univ : Finset (Fin 12288)).fold max (⊥ : EReal) (fun n => Z (ix2 t n)) := by
  pointwise
  rw [ofBits_bot]

/-- The magnitude, as a maximum. -/
theorem absf_eq (x : EReal) : (FloatOps.absf (F := Ideal) (φ := .f32) x : EReal) = max x (-x) := rfl

/-- An infinite entry replaced by zero. -/
theorem safe_at (M : FVec Ideal S1792 .f32) (t : Fin 1792) (h : M (ix1 t) ≠ (⊤ : EReal)) :
    select (cmpf .olt (Host.absf M) (broadcastInDim S1792 ![] bcast_S_S1792 (constant S_ .f32 0x7F800000#32))) M
        (broadcastInDim S1792 ![] bcast_S_S1792 (id (constant S_ .f32 0x00000000#32))) (ix1 t)
      = safe (M (ix1 t)) := by
  simp only [id_eq]
  pointwise
  rw [ofBits_top, absf_eq]
  unfold safe
  by_cases hb : M (ix1 t) = (⊥ : EReal)
  · rw [hb, if_pos rfl, if_neg (by simp)]
  · rw [if_neg hb, if_pos]
    exact max_lt (lt_top_iff_ne_top.2 h) (lt_top_iff_ne_top.2 (fun e => hb (EReal.neg_eq_top_iff.1 e)))

/-- A sampled row, dequantized. -/
theorem rRows_at (n : Fin 12288) (d : Fin 3584) :
    rRows V (ix2 n d)
      = sitofp (F := Ideal) .bf16 (rCodes V) (ix2 n d) * rScales V (ix2 n ⟨d.1 / 32, by omega⟩) := by
  unfold rRows
  unfold res_main_v25 rCodes rScales rIdx
  generalize Host.gather gather_S32768x3584_S12288x1_S12288x3584_1_0_n_n_0_1_13584 _ _ = C
  generalize Host.gather gather_S32768x112_S12288x1_S12288x112_1_0_n_n_0_1_1112 _ _ = S
  pointwise
  rw [sitofp_ext]

/-- A target's row, dequantized. -/
theorem rRowsT_at (t : Fin 1792) (d : Fin 3584) :
    rRowsT V (ix2 t d)
      = sitofp (F := Ideal) .bf16 (rCodesT V) (ix2 t d) * rScalesT V (ix2 t ⟨d.1 / 32, by omega⟩) := by
  unfold rRowsT
  unfold res_main_v48 rCodesT rScalesT rTix
  generalize Host.gather gather_S32768x3584_S1792x1_S1792x3584_1_0_n_n_0_1_13584 _ _ = C
  generalize Host.gather gather_S32768x112_S1792x1_S1792x112_1_0_n_n_0_1_1112 _ _ = S
  pointwise
  rw [sitofp_ext]

/-- A score. -/
theorem rZ_at (t : Fin 1792) (n : Fin 12288) :
    rZ V (ix2 t n)
      = if (V (Proc.devRef .tc main_arg4) : IVec S12288 32) (ix1 n) = rT V (ix1 t) then (⊥ : EReal)
        else (∑ k : Fin 3584, rX V (ix2 t k) * rRows V (ix2 n k)) - rLq V (ix1 n) := by
  unfold rRows rT rX rZ
  unfold res_main_v65 rLq rIdx
  generalize res_main_v25 V = R
  generalize res_main_v0 V = X
  generalize res_main_v1 V = T
  generalize Host.gather gather_S32768_S12288x1_S12288_n_0_n_n_0_1_1 _ _ = LQ
  simp only [id_eq]
  pointwise
  rw [select_eq', ofBits_bot]

/-- A target's score. -/
theorem rZt_at (t : Fin 1792) :
    rZt V (ix1 t)
      = (∑ k : Fin 3584, rX V (ix2 t k) * rRowsT V (ix2 t k)) - rLqT V (ix1 t) := by
  unfold rRowsT rX rZt
  unfold res_main_v74 rLqT rTix
  generalize res_main_v48 V = R
  generalize res_main_v0 V = X
  generalize Host.gather gather_S32768_S1792x1_S1792_n_0_n_n_0_1_1 _ _ = LQ
  pointwise

/-- A token's largest score. -/
theorem rMax_at (t : Fin 1792) :
    rMax V (ix1 t)
      = (Finset.univ : Finset (Fin 12288)).fold max ⊥ (fun n => rZ V (ix2 t n)) :=
  rowMax_at (rZ V) t

/-- A token's largest score, zero in place of an infinite one. -/
theorem rSafe_at (t : Fin 1792) (h : rMax V (ix1 t) ≠ (⊤ : EReal)) :
    rSafe V (ix1 t)
      = safe (rMax V (ix1 t)) :=
  safe_at (rMax V) t h

/-- A token's log-sum-exp over the sampled columns. -/
theorem rLse_at (t : Fin 1792) :
    rLse V (ix1 t)
      = Ideal.log (∑ n : Fin 12288, Ideal.exp (rZ V (ix2 t n) - rSafe V (ix1 t))) + rSafe V (ix1 t) := by
  unfold rLse rSafe rZ
  unfold res_main_v86
  generalize res_main_v65 V = Z
  generalize res_main_v79 V = M
  pointwise

/-- A token's log-sum-exp with the target. -/
theorem rTot_at (t : Fin 1792) :
    rTot V (ix1 t)
      = max (rZt V (ix1 t)) (rLse V (ix1 t))
        + Ideal.log (1 + Ideal.exp (-(max (rZt V (ix1 t) - rLse V (ix1 t)) (-(rZt V (ix1 t) - rLse V (ix1 t)))))) := by
  unfold rLse rTot rZt
  unfold res_main_v96 res_main_v88
  generalize res_main_v74 V = Zt
  generalize res_main_v86 V = L
  pointwise
  rw [if_neg (fun h => h rfl)]
  rw [absf_eq]
  rfl

/-- The gradient by a target's score. -/
theorem rDzt_at (t : Fin 1792) :
    rDzt V (ix1 t)
      = rG V (ix1 t) * (Ideal.exp (rZt V (ix1 t) - rTot V (ix1 t)) - 1) := by
  unfold rDzt rG rTot rZt
  unfold res_main_v109
  generalize res_main_v74 V = Zt
  generalize res_main_v96 V = L
  generalize res_main_v2 V = g
  pointwise

/-- The gradient by a score. -/
theorem rDz_at (t : Fin 1792) (n : Fin 12288) :
    rDz V (ix2 t n)
      = rG V (ix1 t) * Ideal.exp (rZ V (ix2 t n) - rTot V (ix1 t)) := by
  unfold rDz rG rTot rZ
  unfold res_main_v110
  generalize res_main_v65 V = Z
  generalize res_main_v96 V = L
  generalize res_main_v2 V = g
  pointwise

end Cert.ReferenceIdeal.Value

end

end
-- ==== Proof.GatherRow.lean ====
/-
A `stablehlo.gather` of whole rows of a matrix at a column of row numbers, read at an index.
-/
module

public import Idealize.ShloMosaic.Lib.ValueIdxCore

@[expose] public section

set_option maxRecDepth 16384

noncomputable section

open Idealize.ShloMosaic Idealize.ShloMosaic.ValueIdx

namespace Cert.GatherRow

variable {α : Type}

/-- The dimension numbers of such a gather: operand `[N, C]`, row numbers `[B, 1]`, result `[B, C]`. -/
abbrev rowDims (N C B : Nat)
    (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- The row read for result row `b`: the start index, read signed and clamped into the operand. -/
def rowAt (N : Nat) {B : Nat} (hN : 0 < N) (idx : IVec ⟨2, ![B, 1]⟩ 32) (b : Fin B) : Fin N :=
  ⟨min (idx (ix2 b 0)).toInt.toNat (N - 1), by omega⟩

/-- The gather at `(b, j)` is the operand at the clamped row, column `j`. -/
theorem gather_row_apply {N C B : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ 32) (b : Fin B) (j : Fin C) :
    Host.gather (rowDims N C B wf) x idx (ix2 b j) = x (ix2 (rowAt N hN idx b) j) := by
  unfold Host.gather
  congr 1
  funext a
  refine Fin.ext ?_
  show (rowDims N C B wf).start (ix2 b j) idx a + (rowDims N C B wf).batchCoord (ix2 b j) a
      + (rowDims N C B wf).offCoord (ix2 b j) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C B wf).startIndexMap from List.mem_singleton.mpr rfl)]
    have hsi : (rowDims N C B wf).siIdx (ix2 b j) ⟨List.idxOf (0 : Fin 2) (rowDims N C B wf).startIndexMap,
        List.idxOf_lt_length_iff.2 (List.mem_singleton.mpr rfl)⟩ = ix2 b 0 := by
      funext b; refine Fin.ext ?_
      match b with
      | ⟨0, _⟩ => rfl
      | ⟨1, _⟩ => rfl
    rw [hsi]
    rfl
  · have hs : (rowDims N C B wf).start (ix2 b j) idx (1 : Fin 2) = 0 := by
      unfold GatherDims.start
      rw [dif_neg (show ¬ (1 : Fin 2) ∈ (rowDims N C B wf).startIndexMap from by
        intro h; have := List.mem_singleton.mp h; have h2 : (1 : ℕ) = 0 := congrArg Fin.val this
        omega)]
    rw [hs]
    simp only [Nat.zero_add, Nat.add_zero]
    rfl

end Cert.GatherRow

end

end
-- ==== Proof.Bridge.lean ====
/-
The kernel's intermediate values against the reference's: rows, scores and incoming gradients.
-/
module

public import proofs.«01_k».proof.Proof.KernelVals
public import proofs.«01_k».proof.Proof.RefVals
public import proofs.«01_k».proof.Proof.GatherRow

@[expose] public section

set_option maxRecDepth 16384

noncomputable section

open Idealize.ShloMosaic Idealize.ShloMosaic.TcCoe Idealize.SL.Sem

namespace Cert.Bridge

open Cert.KernelIdeal Cert.KernelIdeal.Gen Cert.KernelIdeal.Value Cert.GatherRow
open Cert.ReferenceIdeal.Value (rX rT rG rRows rRowsT rZ rZt rIdx rTix rLq rLqT rCodes rScales rCodesT rScalesT)

variable (V : Valuation Cert.ReferenceIdeal.τ Cert.ReferenceIdeal.sig (Elt Ideal))

/-- The hidden states, as an argument. -/
def a0 : FVec Ideal S2x896x3584 .bf16 := V (Proc.devRef .tc Cert.ReferenceIdeal.main_arg0)
/-- The codes, as an argument. -/
def a1 : IVec S32768x3584 8 := V (Proc.devRef .tc Cert.ReferenceIdeal.main_arg1)
/-- The scales, as an argument. -/
def a2 : FVec Ideal S32768x112 .f32 := V (Proc.devRef .tc Cert.ReferenceIdeal.main_arg2)
/-- The log probabilities, as an argument. -/
def a3 : FVec Ideal S32768 .f32 := V (Proc.devRef .tc Cert.ReferenceIdeal.main_arg3)
/-- The sampled columns, as an argument. -/
def a4 : IVec S12288 32 := V (Proc.devRef .tc Cert.ReferenceIdeal.main_arg4)
/-- The targets, as an argument. -/
def a5 : IVec S2x896 32 := V (Proc.devRef .tc Cert.ReferenceIdeal.main_arg5)
/-- The incoming gradients, as an argument. -/
def a6 : FVec Ideal S2x896 .f32 := V (Proc.devRef .tc Cert.ReferenceIdeal.main_arg6)
/-- The table's gradient so far, as an argument. -/
def a7 : FVec Ideal S32768x3584 .f32 := V (Proc.devRef .tc Cert.ReferenceIdeal.main_arg7)

/-- The padded scales agree with the scales on the first 112 lanes. -/
theorem padS_at (s : FVec Ideal S32768x112 .f32) (r : Fin 32768) (l : Fin 112) :
    padS s (ix2 r ⟨l.1, by omega⟩) = s (ix2 r l) := by
  pointwise [padS]

/-- A sampled row's scale. -/
theorem scales_eq (n : Fin 12288) (l : Fin 112) :
    Host.gather gather_S32768x128_S12288x1_S12288x128_1_0_n_n_0_1_1128 (padS (a2 V)) (idsIdx (a4 V)) (ix2 n ⟨l.1, by omega⟩)
      = rScales V (ix2 n l) :=
  (gather_row_apply (N := 32768) (C := 128) (B := 12288) (by decide) _ _ _ n _).trans
    ((padS_at _ _ l).trans (gather_row_apply (N := 32768) (C := 112) (B := 12288) (by decide) _ _ _ n l).symm)

/-- A target row's scale. -/
theorem scalesT_eq (t : Fin 1792) (l : Fin 112) :
    Host.gather gather_S32768x128_S1792x1_S1792x128_1_0_n_n_0_1_1128 (padS (a2 V)) (tgtIdx (tgtOf (a5 V))) (ix2 t ⟨l.1, by omega⟩)
      = rScalesT V (ix2 t l) :=
  (gather_row_apply (N := 32768) (C := 128) (B := 1792) (by decide) _ _ _ t _).trans
    ((padS_at _ _ l).trans (gather_row_apply (N := 32768) (C := 112) (B := 1792) (by decide) _ _ _ t l).symm)

/-- The sampled rows. -/
theorem rows_eq (n : Fin 12288) (d : Fin 3584) : kRows (a1 V) (a2 V) (a4 V) (ix2 n d) = rRows V (ix2 n d) := by
  rw [Cert.ReferenceIdeal.Value.rRows_at, ← scales_eq V n ⟨d.1 / 32, by omega⟩]
  rfl

/-- The targets' rows. -/
theorem rowsT_eq (t : Fin 1792) (d : Fin 3584) : kRowsT (a1 V) (a2 V) (tgtOf (a5 V)) (ix2 t d) = rRowsT V (ix2 t d) := by
  rw [Cert.ReferenceIdeal.Value.rRowsT_at, ← scalesT_eq V t ⟨d.1 / 32, by omega⟩]
  rfl

/-- The hidden states. -/
theorem x_eq : hOf (a0 V) = rX V := rfl

/-- The incoming gradients. -/
theorem g_eq (t : Fin 1792) : gOf (a6 V) (ix2 t 0) = rG V (ix1 t) := by
  unfold rG Cert.ReferenceIdeal.Value.res_main_v2
  show _ = shapeCast S1792 (a6 V) _ (ix1 t)
  pointwise [gOf]

/-- The targets' scores. -/
theorem zt_eq (t : Fin 1792) : kZt (hOf (a0 V)) (a1 V) (a2 V) (a3 V) (tgtOf (a5 V)) (ix2 t 0) = rZt V (ix1 t) := by
  rw [Cert.ReferenceIdeal.Value.rZt_at]
  show (∑ k : Fin 3584, rX V (ix2 t k) * kRowsT (a1 V) (a2 V) (tgtOf (a5 V)) (ix2 t k))
    - shapeCast S1792x1 (rLqT V) shapeCasts_S1792_S1792x1 (ix2 t 0) = _
  generalize rLqT V = LQ
  simp only [rowsT_eq]
  pointwise

/-- The scores. -/
theorem z_eq (i : Fin 24) (t : Fin 1792) (k : Fin 512) :
    kScores (hOf (a0 V)) (a1 V) (a2 V) (a3 V) (a4 V) (tgtOf (a5 V)) (ix3 i t k)
      = rZ V (ix2 t ⟨i.1 * 512 + k.1, by omega⟩) := by
  rw [Cert.ReferenceIdeal.Value.rZ_at]
  show (if shapeCast S1792x1 (rT V) shapeCasts_S1792_S1792x1 (ix2 t 0) = shapeCast S24x1x512 (a4 V) shapeCasts_S12288_S24x1x512 (ix3 i 0 k)
    then (⊥ : EReal) else (∑ d : Fin 3584, rX V (ix2 t d) * kRows (a1 V) (a2 V) (a4 V) (ix2 ⟨i.1 * 512 + k.1, by omega⟩ d))
    - shapeCast S24x1x512 (rLq V) shapeCasts_S12288_S24x1x512 (ix3 i 0 k)) = _
  simp only [rows_eq]
  show _ = (if a4 V _ = _ then _ else _)
  generalize rLq V = LQ
  generalize rT V = T
  generalize a4 V = A
  pointwise
  exact if_congr eq_comm rfl rfl

end Cert.Bridge

end

end
-- ==== Proof.Finite.lean ====
/-
What the precondition says: every hidden state, scale and log probability is a real number; and
the arithmetic that keeps a value real.
-/
module

public import proofs.«01_k».proof.Defs
public import proofs.«01_k».proof.Proof.Gen.Pre_finite_inputs
public import Idealize.ShloMosaic.Lib.Pointwise
public import Idealize.ShloMosaic.Lib.ReduceAll
public import proofs.«01_k».proof.Proof.LogSumExp

@[expose] public section

set_option maxRecDepth 16384

noncomputable section

open Idealize.ShloMosaic

namespace Cert.Finite

open Cert.Lse

/-- A value that is a real number. -/
def IsReal (x : EReal) : Prop := ∃ r : ℝ, x = (r : EReal)

/-- A product of reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A difference of reals is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of reals is real. -/
theorem IsReal.sum {ι : Type} [Fintype ι] {f : ι → EReal} (h : ∀ i, IsReal (f i)) : IsReal (∑ i, f i) := by
  refine Finset.sum_induction f IsReal ?_ ⟨0, rfl⟩ (fun i _ => h i)
  rintro x y ⟨a, rfl⟩ ⟨b, rfl⟩
  exact ⟨a + b, (EReal.coe_add a b).symm⟩

/-- A real is not `+∞`. -/
theorem IsReal.ne_top {x : EReal} (h : IsReal x) : x ≠ ⊤ := by
  obtain ⟨a, rfl⟩ := h
  exact EReal.coe_ne_top a

/-- A magnitude below `+∞` is that of a real. -/
theorem isReal_of_abs {x : EReal} (h : max x (-x) < ⊤) : IsReal x := by
  have h1 : x ≠ ⊤ := ne_of_lt (lt_of_le_of_lt (le_max_left _ _) h)
  have h2 : x ≠ ⊥ := by
    rintro rfl
    simp at h
  exact ⟨x.toReal, (EReal.coe_toReal h1 h2).symm⟩

/-- A comparison that came out true. -/
theorem isReal_of_cmp {x : EReal}
    (h : FloatOps.cmpf (F := Ideal) (φ := .f32) .olt (FloatOps.absf (F := Ideal) (φ := .f32) x) (Ideal.ofBits .f32 0x7F800000#32) = 1#1) :
    IsReal x := by
  rw [ofBits_top, Ideal.cmpf_def, Ideal.cmp_olt] at h
  apply isReal_of_abs
  by_contra hc
  have hd : decide (FloatOps.absf (F := Ideal) (φ := .f32) x < (⊤ : EReal)) = false := decide_eq_false hc
  rw [hd] at h
  exact absurd h (by decide)

open Cert.Pre_finite_inputs Cert.Pre_finite_inputs.Facts

/-- The precondition's three parts. -/
theorem of_pre [Cert.Pre_finite_inputs.Facts] (a0 : FVec Ideal S2x896x3584 .bf16) (a1 : IVec S32768x3584 8) (a2 : FVec Ideal S32768x112 .f32)
    (a3 : FVec Ideal S32768 .f32) (a4 : IVec S12288 32) (a5 : IVec S2x896 32) (a6 : FVec Ideal S2x896 .f32)
    (a7 : FVec Ideal S32768x3584 .f32) (h : fn (F := Ideal) a0 a1 a2 a3 a4 a5 a6 a7 ix0 = 1#1) :
    (∀ i, IsReal (a0 i)) ∧ (∀ i, IsReal (a2 i)) ∧ (∀ i, IsReal (a3 i)) := by
  unfold fn at h
  obtain ⟨h, h3⟩ := IntOp.andi_eq_one.1 h
  obtain ⟨h0, h2⟩ := IntOp.andi_eq_one.1 h
  haveI : Subsingleton S_.Idx := ⟨fun a b => funext fun i => i.elim0⟩
  refine ⟨fun i => ?_, fun i => ?_, fun i => ?_⟩
  · exact isReal_of_cmp (Host.reduce_andi_all _ _ _ _ _ h0 i)
  · exact isReal_of_cmp (Host.reduce_andi_all _ _ _ _ _ h2 i)
  · exact isReal_of_cmp (Host.reduce_andi_all _ _ _ _ _ h3 i)

end Cert.Finite

end

end
-- ==== Proof.LseEq.lean ====
/-
The log-sum-exps agree: the kernel's, merged from running maxima and rescaled sums, and the
reference's, both are the logarithm of the plain sum of exponentials.
-/
module

public import proofs.«01_k».proof.Proof.Bridge
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.Bridge

open Cert.KernelIdeal Cert.KernelIdeal.Gen Cert.KernelIdeal.Value Cert.Lse Cert.Finite
open Cert.ReferenceIdeal.Value (rX rT rG rRows rRowsT rZ rZt rLq rLqT rCodes rScales rCodesT rScalesT rMax rSafe rLse rTot)

/-- A sum over `a * b` numbers, by quotient and remainder. -/
theorem sum_split (a b n : ℕ) (h : n = a * b) (g : Fin n → ℝ) :
    ∑ k, g k = ∑ i : Fin a, ∑ j : Fin b, g ⟨j.1 + b * i.1, by
      have := i.2; have := j.2
      calc j.1 + b * i.1 < b + b * i.1 := by omega
        _ = b * (i.1 + 1) := by ring
        _ ≤ b * a := Nat.mul_le_mul_left _ i.2
        _ = n := by rw [h, Nat.mul_comm]⟩ := by
  subst h
  rw [← finProdFinEquiv.sum_comp, Fintype.sum_prod_type]
  rfl

/-- The lanes' sums over the tiles are the sum over all sampled columns. -/
theorem sum_lanes (Z : FVec Ideal S24x1792x512 .f32) (z : Fin 12288 → EReal) (t : Fin 1792)
    (h : ∀ (i : Fin 24) (k : Fin 512), Z (ix3 i t k) = z ⟨i.1 * 512 + k.1, by omega⟩) :
    ∑ l : Fin 128, laneE Z t l = ∑ n, wt (z n) := by
  unfold laneE laneW
  simp only [h]
  rw [Finset.sum_comm, sum_split 24 512 12288 rfl]
  refine Finset.sum_congr rfl fun i _ => ?_
  rw [sum_split 4 128 512 rfl, Finset.sum_comm]
  refine Finset.sum_congr rfl fun l _ => ?_
  rw [Fin.sum_univ_four]
  congr 1
  · congr 1
    · congr 1
      · congr 2; refine Fin.ext ?_; show i.1 * 512 + l.1 = l.1 + 128 * 0 + 512 * i.1; ring
      · congr 2; refine Fin.ext ?_; show i.1 * 512 + (128 + l.1) = l.1 + 128 * 1 + 512 * i.1; ring
    · congr 2; refine Fin.ext ?_; show i.1 * 512 + (256 + l.1) = l.1 + 128 * 2 + 512 * i.1; ring
  · congr 2; refine Fin.ext ?_; show i.1 * 512 + (384 + l.1) = l.1 + 128 * 3 + 512 * i.1; ring

variable (V : Valuation Cert.ReferenceIdeal.τ Cert.ReferenceIdeal.sig (Elt Ideal))

/-- The inputs' reals, as the precondition gives them. -/
structure Reals : Prop where
  /-- the hidden states are real -/
  x : ∀ i, IsReal (a0 V i)
  /-- the scales are real -/
  s : ∀ i, IsReal (a2 V i)
  /-- the log probabilities are real -/
  q : ∀ i, IsReal (a3 V i)

variable {V}

/-- A code is a real number. -/
theorem code_real {s : Shape} (c : IVec s 8) (i : s.Idx) : IsReal (sitofp (F := Ideal) .bf16 c i) := ⟨_, rfl⟩

/-- The hidden states' rows are real. -/
theorem Reals.rX (h : Reals V) (i) : IsReal (rX V i) := h.x _

/-- The sampled rows are real. -/
theorem Reals.rRows (h : Reals V) (n : Fin 12288) (d : Fin 3584) : IsReal (rRows V (ix2 n d)) := by
  rw [Cert.ReferenceIdeal.Value.rRows_at]
  exact (code_real _ _).mul (h.s _)

/-- The targets' rows are real. -/
theorem Reals.rRowsT (h : Reals V) (t : Fin 1792) (d : Fin 3584) : IsReal (rRowsT V (ix2 t d)) := by
  rw [Cert.ReferenceIdeal.Value.rRowsT_at]
  exact (code_real _ _).mul (h.s _)

/-- No score is `+∞`. -/
theorem Reals.rZ (h : Reals V) (t : Fin 1792) (n : Fin 12288) : rZ V (ix2 t n) ≠ (⊤ : EReal) := by
  rw [Cert.ReferenceIdeal.Value.rZ_at]
  split_ifs
  · exact bot_ne_top
  · exact ((IsReal.sum fun k => (h.rX _).mul (h.rRows n k)).sub (h.q _)).ne_top

/-- The targets' scores are real. -/
theorem Reals.rZt (h : Reals V) (t : Fin 1792) : IsReal (rZt V (ix1 t)) := by
  rw [Cert.ReferenceIdeal.Value.rZt_at]
  exact (IsReal.sum fun k => (h.rX _).mul (h.rRowsT t k)).sub (h.q _)

/-- The reference's log-sum-exp with the target. -/
theorem rTot_eq (h : Reals V) (t : Fin 1792) (zt : ℝ) (hzt : rZt V (ix1 t) = (zt : EReal)) :
    rTot V (ix1 t) = ((Real.log ((∑ n : Fin 12288, wt (rZ V (ix2 t n))) + Real.exp zt) : ℝ) : EReal) := by
  have hm := Cert.ReferenceIdeal.Value.rMax_at V t
  have hmt : rMax V (ix1 t) ≠ (⊤ : EReal) := by
    rw [hm]
    exact ne_of_lt (Finset.fold_max_lt _ |>.2 ⟨bot_lt_top, fun n _ => lt_top_iff_ne_top.2 (h.rZ t n)⟩)
  have hs := Cert.ReferenceIdeal.Value.rSafe_at V t hmt
  have hl := Cert.ReferenceIdeal.Value.rLse_at V t
  rw [hs, ref_logsumexp (fun n => rZ V (ix2 t n)) (h.rZ t) _ hm] at hl
  rw [Cert.ReferenceIdeal.Value.rTot_at, hzt]
  exact ref_logaddexp zt _ (Finset.sum_nonneg fun n _ => wt_nonneg _) _ hl

/-- The kernel's log-sum-exp, merged from lanes that are good for the scores. -/
theorem kLse_eq (Z : FVec Ideal S24x1792x512 .f32) (mx sm : FVec Ideal S1792x128 .f32) (zts : FVec Ideal S1792x1 .f32) (t : Fin 1792)
    (hg : ∀ l, Good (mx (ix2 t l)) (sm (ix2 t l)) (laneE Z t l)) (zt : ℝ) (hzt : zts (ix2 t 0) = (zt : EReal)) :
    lseOf mx sm zts (ix2 t 0) = ((Real.log ((∑ l : Fin 128, laneE Z t l) + Real.exp zt) : ℝ) : EReal) := by
  have e : lseOf mx sm zts (ix2 t 0) = mergeLse (fun l => mx (ix2 t l)) (fun l => sm (ix2 t l)) (zts (ix2 t 0)) := rfl
  rw [e, hzt]
  unfold mergeLse
  exact merge_lse (fun l => mx (ix2 t l)) (fun l => sm (ix2 t l)) (fun l => laneE Z t l) hg
    (fun l => Finset.sum_nonneg fun i _ => by
      unfold laneW
      exact add_nonneg (add_nonneg (add_nonneg (wt_nonneg _) (wt_nonneg _)) (wt_nonneg _)) (wt_nonneg _)) zt _ rfl

end Cert.Bridge

end

end
-- ==== Proof.Results.lean ====
/-
The kernel's four results are the reference's.
-/
module

public import proofs.«01_k».proof.Proof.LseEq

@[expose] public section

set_option maxRecDepth 16384

noncomputable section

open Idealize.ShloMosaic Idealize.ShloMosaic.TcCoe Idealize.SL.Sem
open Idealize.ShloMosaic.Pipeline (Dat)

namespace Cert.Bridge

open Cert.KernelIdeal Cert.KernelIdeal.Gen Cert.KernelIdeal.Value Cert.Lse Cert.Finite
open Cert.ReferenceIdeal.Value (rX rT rG rRows rRowsT rZ rZt rTot rDzt rDz)

variable (m : (ℓ : Loc nD τ sig) → Buf (Elt Ideal) ℓ) (ρ : Dev nD → PrngReg) (c : Dev nD)
variable (V : Valuation Cert.ReferenceIdeal.τ Cert.ReferenceIdeal.sig (Elt Ideal))

/-- The kernel's memory holds the reference's arguments. -/
structure Args : Prop where
  /-- the hidden states -/
  e0 : m ((c : Thread nD τ).loc main_arg0) = a0 V
  /-- the codes -/
  e1 : m ((c : Thread nD τ).loc main_arg1) = a1 V
  /-- the scales -/
  e2 : m ((c : Thread nD τ).loc main_arg2) = a2 V
  /-- the log probabilities -/
  e3 : m ((c : Thread nD τ).loc main_arg3) = a3 V
  /-- the sampled columns -/
  e4 : m ((c : Thread nD τ).loc main_arg4) = a4 V
  /-- the targets -/
  e5 : m ((c : Thread nD τ).loc main_arg5) = a5 V
  /-- the incoming gradients -/
  e6 : m ((c : Thread nD τ).loc main_arg6) = a6 V
  /-- the table's gradient so far -/
  e7 : m ((c : Thread nD τ).loc main_arg7) = a7 V

variable {m c V}

/-- The run's scores are the reference's. -/
theorem mZ_at (ha : Args m c V) (i : Fin 24) (t : Fin 1792) (k : Fin 512) :
    mZ m c (ix3 i t k) = rZ V (ix2 t ⟨i.1 * 512 + k.1, by omega⟩) := by
  rw [← z_eq]
  unfold mZ
  rw [ha.e0, ha.e1, ha.e2, ha.e3, ha.e4, ha.e5]

/-- The run's target scores are the reference's. -/
theorem mZt_at (ha : Args m c V) (t : Fin 1792) : mZt m c (ix2 t 0) = rZt V (ix1 t) := by
  rw [← zt_eq]
  unfold mZt
  rw [ha.e0, ha.e1, ha.e2, ha.e3, ha.e5]

/-- The run's log-sum-exps are the reference's. -/
theorem mLse_at (ha : Args m c V) (h : Reals V) (t : Fin 1792) : mLse m ρ c (ix2 t 0) = rTot V (ix1 t) := by
  obtain ⟨zt, hzt⟩ := h.rZt t
  have hz : ∀ j, scoresAt (V3 m ρ) c j ≠ (⊤ : EReal) := by
    intro j
    rw [scoresAt_V3]
    idx_vars j
    rw [mZ_at ha]
    exact h.rZ _ _
  have hg := fun l => good_final (V3 m ρ) c hz t l
  rw [scoresAt_V3] at hg
  refine (kLse_eq (mZ m c) (mMax m ρ c) (mSum m ρ c) (mZt m c) t hg zt ((mZt_at ha t).trans hzt)).trans ?_
  rw [rTot_eq h t zt hzt, sum_lanes (mZ m c) (fun n => rZ V (ix2 t n)) t (fun i k => mZ_at ha i t k)]

/-- The run's incoming gradients are the reference's. -/
theorem mG_at (ha : Args m c V) (t : Fin 1792) : gOf (m ((c : Thread nD τ).loc main_arg6)) (ix2 t 0) = rG V (ix1 t) := by
  rw [ha.e6, g_eq]

/-- The run's gradients by the scores are the reference's. -/
theorem dz_at (ha : Args m c V) (h : Reals V) (t : Fin 1792) (n : Fin 12288) :
    dzOf (gOf (m ((c : Thread nD τ).loc main_arg6))) (mZ m c) (mLse m ρ c) t n = rDz V (ix2 t n) := by
  rw [Cert.ReferenceIdeal.Value.rDz_at]
  unfold dzOf
  rw [mG_at ha, mLse_at ρ ha h, mZ_at ha]
  congr 5
  refine Fin.ext ?_
  show n.1 / 512 * 512 + n.1 % 512 = n.1
  omega

/-- The run's gradients by the target scores are the reference's. -/
theorem dzt_at (ha : Args m c V) (h : Reals V) (t : Fin 1792) :
    kDzt (gOf (m ((c : Thread nD τ).loc main_arg6))) (mZt m c) (mLse m ρ c) (ix2 t 0) = rDzt V (ix1 t) := by
  rw [Cert.ReferenceIdeal.Value.rDzt_at]
  unfold kDzt
  rw [mG_at ha, mLse_at ρ ha h, mZt_at ha]

/-- The third result, before the reference's own name for it: the sampled rows' gradient. -/
theorem dw_eq (ha : Args m c V) (h : Reals V) :
    dwOf (gOf (m ((c : Thread nD τ).loc main_arg6))) (mZ m c) (mLse m ρ c) (hOf (m ((c : Thread nD τ).loc main_arg0)))
      = Host.dotGeneral Cert.ReferenceIdeal.dot_S1792x12288_S1792x3584_S12288x3584_0_0_1_1_n_n none (rDz V) (rX V) := by
  rw [ha.e0, x_eq]
  funext j
  idx_vars j
  show (∑ t : Fin 1792, dzOf (gOf (m ((c : Thread nD τ).loc main_arg6))) (mZ m c) (mLse m ρ c) t j0 * rX V (ix2 t j1)) = _
  simp only [dz_at ρ ha h]
  generalize rDz V = D
  generalize rX V = X
  pointwise

/-- The hidden states' gradient through the sampled rows. -/
theorem dh_eq (ha : Args m c V) (h : Reals V) :
    dhOf (gOf (m ((c : Thread nD τ).loc main_arg6))) (mZ m c) (mLse m ρ c)
        (kRows (m ((c : Thread nD τ).loc main_arg1)) (m ((c : Thread nD τ).loc main_arg2)) (m ((c : Thread nD τ).loc main_arg4)))
      = Host.dotGeneral Cert.ReferenceIdeal.dot_S1792x12288_S12288x3584_S1792x3584_1_0_0_1_n_n none (rDz V) (rRows V) := by
  rw [ha.e1, ha.e2, ha.e4]
  funext j
  idx_vars j
  show (∑ n : Fin 12288, dzOf (gOf (m ((c : Thread nD τ).loc main_arg6))) (mZ m c) (mLse m ρ c) j0 n * kRows (a1 V) (a2 V) (a4 V) (ix2 n j1)) = _
  simp only [dz_at ρ ha h, rows_eq]
  generalize rDz V = D
  generalize rRows V = R
  pointwise

/-- The gradients by the target scores, spread over the columns. -/
theorem dzt_eq (ha : Args m c V) (h : Reals V) :
    broadcastInDim S1792x3584 ![0, 1] bcast_S1792x1_S1792x3584_0_1
        (kDzt (gOf (m ((c : Thread nD τ).loc main_arg6))) (mZt m c) (mLse m ρ c))
      = broadcastInDim S1792x3584 ![0, 1] Cert.ReferenceIdeal.Facts₀.bcast_S1792x1_S1792x3584_0_1
        (broadcastInDim S1792x1 ![0] Cert.ReferenceIdeal.Facts₀.bcast_S1792_S1792x1_0 (rDzt V)) := by
  have hk := dzt_at ρ ha h
  revert hk
  generalize kDzt (gOf (m ((c : Thread nD τ).loc main_arg6))) (mZt m c) (mLse m ρ c) = K
  generalize rDzt V = R
  intro hk
  funext j
  idx_vars j
  pointwise
  exact hk j0

/-- The targets' rows. -/
theorem rt_eq (ha : Args m c V) :
    kRowsT (m ((c : Thread nD τ).loc main_arg1)) (m ((c : Thread nD τ).loc main_arg2)) (tgtOf (m ((c : Thread nD τ).loc main_arg5)))
      = rRowsT V := by
  rw [ha.e1, ha.e2, ha.e5]
  funext j
  idx_vars j
  exact rowsT_eq V j0 j1

/-- The fourth result. -/
theorem loss_eq (ha : Args m c V) (h : Reals V) :
    shapeCast S2x896 (fun j => mLse m ρ c j - mZt m c j : FVec Ideal S1792x1 .f32) shapeCasts_S1792x1_S2x896
      = shapeCast S2x896 (subf (rTot V) (rZt V)) Cert.ReferenceIdeal.Facts₀.shapeCasts_S1792_S2x896 := by
  have hk : ∀ t : Fin 1792, (fun j => mLse m ρ c j - mZt m c j : FVec Ideal S1792x1 .f32) (ix2 t 0)
      = rTot V (ix1 t) - rZt V (ix1 t) := by
    intro t
    show mLse m ρ c (ix2 t 0) - mZt m c (ix2 t 0) = _
    rw [mLse_at ρ ha h, mZt_at ha]
  revert hk
  generalize (fun j => mLse m ρ c j - mZt m c j : FVec Ideal S1792x1 .f32) = K
  generalize rTot V = A
  generalize rZt V = B
  intro hk
  funext j
  idx_vars j
  pointwise
  exact hk _

end Cert.Bridge

end

end
-- ==== Proof.KernelRun.lean ====
/-
The kernel's run with its results: the frame's launch, its final state read at the four result
buffers as well as at the arguments.
-/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the four results at the last host value and the arguments unchanged. -/
theorem run_results : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_v76) = W8 m ρ c (Proc.devRef .tc main_v76)
      ∧ r.2.mem ((c.tc : Thread nD τ).loc main_v53_1) = W8 m ρ c (Proc.devRef .tc main_v53_1)
      ∧ r.2.mem ((c.tc : Thread nD τ).loc main_v77) = W8 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz c =>
      ⟨h c _ (mem_uc main_v59 (by decide)),
       h c _ (mem_uc main_v76 (by decide)),
       h c _ (mem_uc main_v53_1 (by decide)),
       h c _ (mem_uc main_v77 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Value

end

end
-- ==== Proof.Final.lean ====
/-
The value claim: from memories that agree on the arguments, the kernel and the reference end with
equal results.
-/
module

public import proofs.«01_k».proof.Proof.Results
public import proofs.«01_k».proof.Proof.KernelRun
public import Idealize.ShloMosaic.Lib.Claim

@[expose] public section

set_option maxRecDepth 16384

noncomputable section

open Idealize.ShloMosaic Idealize.ShloMosaic.TcCoe Idealize.SL.Sem

namespace Cert.Bridge

open Cert.KernelIdeal Cert.KernelIdeal.Gen Cert.KernelIdeal.Value Cert.Lse Cert.Finite

variable {m : (ℓ : Loc nD τ sig) → Buf (Elt Ideal) ℓ} (ρ : Dev nD → PrngReg) {c : Dev nD}
variable {V : Valuation Cert.ReferenceIdeal.τ Cert.ReferenceIdeal.sig (Elt Ideal)}

/-- The first result, of the reference's values. -/
theorem dH_result (ha : Args m c V) (h : Reals V) : W8 m ρ c (Proc.devRef .tc main_v59)
    = shapeCast S2x896x3584 (truncf .bf16 (addf
        (Host.dotGeneral Cert.ReferenceIdeal.dot_S1792x12288_S12288x3584_S1792x3584_1_0_0_1_n_n none
          (Cert.ReferenceIdeal.Value.rDz V) (Cert.ReferenceIdeal.Value.rRows V))
        (mulf (broadcastInDim S1792x3584 ![0, 1] Cert.ReferenceIdeal.Facts₀.bcast_S1792x1_S1792x3584_0_1
            (broadcastInDim S1792x1 ![0] Cert.ReferenceIdeal.Facts₀.bcast_S1792_S1792x1_0 (Cert.ReferenceIdeal.Value.rDzt V)))
          (extf .f32 (Cert.ReferenceIdeal.Value.rRowsT V) bitsLt_bf16_f32))) bitsLt_bf16_f32)
      shapeCasts_S1792x3584_S2x896x3584 := by
  rw [W8_v59, dh_eq ρ ha h, rt_eq ha]
  unfold kDh
  rw [dzt_eq ρ ha h]

/-- The second result, of the reference's values. -/
theorem table_result (ha : Args m c V) (h : Reals V) : W8 m ρ c (Proc.devRef .tc main_v76)
    = Host.scatterAdd scatter_S32768x3584_S1792x1_S1792x3584_1_0_0_1
      (Host.scatterAdd scatter_S32768x3584_S12288x1_S12288x3584_1_0_0_1 (a7 V) (idsIdx (a4 V))
        (Host.dotGeneral Cert.ReferenceIdeal.dot_S1792x12288_S1792x3584_S12288x3584_0_0_1_1_n_n none
          (Cert.ReferenceIdeal.Value.rDz V) (Cert.ReferenceIdeal.Value.rX V)))
      (tgtIdx (tgtOf (a5 V)))
      (mulf (broadcastInDim S1792x3584 ![0, 1] Cert.ReferenceIdeal.Facts₀.bcast_S1792x1_S1792x3584_0_1
          (broadcastInDim S1792x1 ![0] Cert.ReferenceIdeal.Facts₀.bcast_S1792_S1792x1_0 (Cert.ReferenceIdeal.Value.rDzt V)))
        (extf .f32 (Cert.ReferenceIdeal.Value.rX V) bitsLt_bf16_f32)) := by
  rw [W8_v76, dw_eq ρ ha h]
  unfold kTab
  rw [dzt_eq ρ ha h, ha.e7, ha.e4, ha.e5, ha.e0, x_eq]

/-- The kernel and the reference compute the same four results where the hidden states, the scales and the
    log probabilities are finite. -/
theorem algebraic : Cert.algebraic_KernelIdeal_ReferenceIdeal_pre_finite_inputs
    (hKernelIdeal := Cert.KernelIdeal.Gen.facts) (hReferenceIdeal := Cert.ReferenceIdeal.Gen.facts)
    (hPre_finite_inputs := Cert.Pre_finite_inputs.Gen.facts) := by
  intro m g m' g' hpre hagree
  have ha : ∀ c, Args m c (StableHlo.launchContents m' c) := fun c => by
    obtain ⟨h0, h1, h2, h3, h4, h5, h6, h7⟩ := hagree c
    exact ⟨h0.symm, h1.symm, h2.symm, h3.symm, h4.symm, h5.symm, h6.symm, h7.symm⟩
  have hr : ∀ c, Reals (StableHlo.launchContents m' c) := fun c => by
    obtain ⟨hx, hs, hq⟩ := @of_pre Cert.Pre_finite_inputs.Gen.facts _ _ _ _ _ _ _ _ (congrFun (hpre c) ix0)
    have hc := ha c
    exact ⟨hc.e0 ▸ hx, hc.e2 ▸ hs, hc.e3 ▸ hq⟩
  refine ⟨fun c => W8 m g c (Proc.devRef .tc main_v59), fun c => W8 m g c (Proc.devRef .tc main_v76),
    fun c => W8 m g c (Proc.devRef .tc main_v53_1), fun c => W8 m g c (Proc.devRef .tc main_v77),
    run_results m g, ?_⟩
  refine (θ_run _ _ _).mono (fun r h c => ?_) (Cert.ReferenceIdeal.Value.run m' g')
  obtain ⟨r0, r1, r2, r3, rest⟩ := h c
  refine ⟨r0.trans (Eq.symm ?_), r1.trans (Eq.symm ?_), r2.trans (Eq.symm ?_), r3.trans (Eq.symm ?_), rest⟩
  · exact dH_result g (ha c) (hr c)
  · exact table_result g (ha c) (hr c)
  · exact (W8_v53_1 m g c).trans (dw_eq g (ha c) (hr c))
  · exact (W8_v77 m g c).trans (loss_eq g (ha c) (hr c))

end Cert.Bridge

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import Idealize.ShloMosaic.Adequacy
public import Idealize.ShloMosaic.Init
public import proofs.«01_k».proof.Proof.Gen.ReferenceIdeal.Run
public import proofs.«01_k».proof.Proof.Final

@[expose] public section

noncomputable section

namespace Cert.Proof

open Idealize.ShloMosaic Idealize.SL.Sem Cert.Kernel

/-- The reference terminates without fault and leaves its arguments unchanged; it declares no semaphore. -/
theorem frame_reference : Cert.quiescent_ReferenceIdeal (hReferenceIdeal := Cert.ReferenceIdeal.Gen.facts) :=
  fun m ρ _ => (θ_run Cert.ReferenceIdeal.defs _ _).mono
    (fun _ h => ⟨fun c => (h c).2.2.2.2, Idealize.ShloMosaic.sem_eq_zero_of_no_sems (by decide) _⟩)
    (Cert.ReferenceIdeal.Value.run (F := Ideal) m ρ)

/-- The kernel's frame on machine floats and on the reals, the reference's frame, and the equality of the four results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    Cert.Bridge.algebraic⟩

end Cert.Proof

end
